-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v276)) (v1 : (c : Dev Cert.KernelIdeal.nD) → Buf (Elt Ideal) ((c.tc : Thread Cert.KernelIdeal.nD Cert.KernelIdeal.τ).loc Cert.KernelIdeal.main_v282)) (v2 : (c : Dev Cert.KernelIdeal.nD) → Buf (Elt Ideal) ((c.tc : Thread Cert.KernelIdeal.nD Cert.KernelIdeal.τ).loc Cert.KernelIdeal.main_v278)) (v3 : (c : Dev Cert.KernelIdeal.nD) → Buf (Elt Ideal) ((c.tc : Thread Cert.KernelIdeal.nD Cert.KernelIdeal.τ).loc Cert.KernelIdeal.main_v281)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v276) = v0 c
          ∧ r.2.mem ((c.tc : Thread Cert.KernelIdeal.nD Cert.KernelIdeal.τ).loc Cert.KernelIdeal.main_v282) = v1 c
          ∧ r.2.mem ((c.tc : Thread Cert.KernelIdeal.nD Cert.KernelIdeal.τ).loc Cert.KernelIdeal.main_v278) = v2 c
          ∧ r.2.mem ((c.tc : Thread Cert.KernelIdeal.nD Cert.KernelIdeal.τ).loc Cert.KernelIdeal.main_v281) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v169) = v0 c
          ∧ r.2.mem ((c.tc : Thread Cert.ReferenceIdeal.nD Cert.ReferenceIdeal.τ).loc Cert.ReferenceIdeal.main_v174) = v1 c
          ∧ r.2.mem ((c.tc : Thread Cert.ReferenceIdeal.nD Cert.ReferenceIdeal.τ).loc Cert.ReferenceIdeal.main_v173) = v2 c
          ∧ r.2.mem ((c.tc : Thread Cert.ReferenceIdeal.nD Cert.ReferenceIdeal.τ).loc Cert.ReferenceIdeal.main_v94) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x1x384x384 : Shape := ⟨4, ![4, 1, 384, 384]⟩
abbrev S64x1x4x4 : Shape := ⟨4, ![64, 1, 4, 4]⟩
abbrev S64 : Shape := ⟨1, ![64]⟩
abbrev S128x64x4x4 : Shape := ⟨4, ![128, 64, 4, 4]⟩
abbrev S128 : Shape := ⟨1, ![128]⟩
abbrev S128x128x3x3 : Shape := ⟨4, ![128, 128, 3, 3]⟩
abbrev S512x128 : Shape := ⟨2, ![512, 128]⟩
abbrev S1 : Shape := ⟨1, ![1]⟩
abbrev S64x4x4 : Shape := ⟨3, ![64, 4, 4]⟩
abbrev S64x16 : Shape := ⟨2, ![64, 16]⟩
abbrev S16x64 : Shape := ⟨2, ![16, 64]⟩
abbrev S8x8 : Shape := ⟨2, ![8, 8]⟩
abbrev S_ : Shape := ⟨0, ![]⟩
abbrev S8x1x8x1 : Shape := ⟨4, ![8, 1, 8, 1]⟩
abbrev S1x16x1x64 : Shape := ⟨4, ![1, 16, 1, 64]⟩
abbrev S8x16x8x64 : Shape := ⟨4, ![8, 16, 8, 64]⟩
abbrev S128x512 : Shape := ⟨2, ![128, 512]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S128x64x1x1 : Shape := ⟨4, ![128, 64, 1, 1]⟩
abbrev S128x64 : Shape := ⟨2, ![128, 64]⟩
abbrev S64x128 : Shape := ⟨2, ![64, 128]⟩
abbrev S64x512 : Shape := ⟨2, ![64, 512]⟩
abbrev S1x64x512 : Shape := ⟨3, ![1, 64, 512]⟩
abbrev S2x64x512 : Shape := ⟨3, ![2, 64, 512]⟩
abbrev S1x2x64x512 : Shape := ⟨4, ![1, 2, 64, 512]⟩
abbrev S2x2x64x512 : Shape := ⟨4, ![2, 2, 64, 512]⟩
abbrev S128x128x1x1 : Shape := ⟨4, ![128, 128, 1, 1]⟩
abbrev S128x128 : Shape := ⟨2, ![128, 128]⟩
abbrev S128x384 : Shape := ⟨2, ![128, 384]⟩
abbrev S1x128x384 : Shape := ⟨3, ![1, 128, 384]⟩
abbrev S3x128x384 : Shape := ⟨3, ![3, 128, 384]⟩
abbrev S128x256 : Shape := ⟨2, ![128, 256]⟩
abbrev S1x128x256 : Shape := ⟨3, ![1, 128, 256]⟩
abbrev S2x128x256 : Shape := ⟨3, ![2, 128, 256]⟩
abbrev S1x2x128x256 : Shape := ⟨4, ![1, 2, 128, 256]⟩
abbrev S2x2x128x256 : Shape := ⟨4, ![2, 2, 128, 256]⟩
abbrev S4x4x64 : Shape := ⟨3, ![4, 4, 64]⟩
abbrev S4x384x384 : Shape := ⟨3, ![4, 384, 384]⟩
abbrev S4x386x386 : Shape := ⟨3, ![4, 386, 386]⟩
abbrev S4x193x2x193x2 : Shape := ⟨5, ![4, 193, 2, 193, 2]⟩
abbrev S4x2x2x193x193 : Shape := ⟨5, ![4, 2, 2, 193, 193]⟩
abbrev S4x1x1x192x192 : Shape := ⟨5, ![4, 1, 1, 192, 192]⟩
abbrev S4x192x192 : Shape := ⟨3, ![4, 192, 192]⟩
abbrev S4x192x192x1 : Shape := ⟨4, ![4, 192, 192, 1]⟩
abbrev S4x192x192x16 : Shape := ⟨4, ![4, 192, 192, 16]⟩
abbrev S4x4608x128 : Shape := ⟨3, ![4, 4608, 128]⟩
abbrev S4x4608x512 : Shape := ⟨3, ![4, 4608, 512]⟩
abbrev S1x4608x128 : Shape := ⟨3, ![1, 4608, 128]⟩
abbrev S1x4608x512 : Shape := ⟨3, ![1, 4608, 512]⟩
abbrev S4608x128 : Shape := ⟨2, ![4608, 128]⟩
abbrev S4608x512 : Shape := ⟨2, ![4608, 512]⟩
abbrev S4x192x192x64 : Shape := ⟨4, ![4, 192, 192, 64]⟩
abbrev S4x194x194x64 : Shape := ⟨4, ![4, 194, 194, 64]⟩
abbrev S4x97x2x97x2x64 : Shape := ⟨6, ![4, 97, 2, 97, 2, 64]⟩
abbrev S4x2x2x97x97x64 : Shape := ⟨6, ![4, 2, 2, 97, 97, 64]⟩
abbrev S4x2x2x97x104x64 : Shape := ⟨6, ![4, 2, 2, 97, 104, 64]⟩
abbrev S1x128 : Shape := ⟨2, ![1, 128]⟩
abbrev S4x96x96x128 : Shape := ⟨4, ![4, 96, 96, 128]⟩
abbrev S1x2x2x97x104x64 : Shape := ⟨6, ![1, 2, 2, 97, 104, 64]⟩
abbrev S1x96x96x128 : Shape := ⟨4, ![1, 96, 96, 128]⟩
abbrev S24x96x128 : Shape := ⟨3, ![24, 96, 128]⟩
abbrev S1x1x1x25x104x64 : Shape := ⟨6, ![1, 1, 1, 25, 104, 64]⟩
abbrev S25x104x64 : Shape := ⟨3, ![25, 104, 64]⟩
abbrev S2600x64 : Shape := ⟨2, ![2600, 64]⟩
abbrev S1x1x64x512 : Shape := ⟨4, ![1, 1, 64, 512]⟩
abbrev S2600x512 : Shape := ⟨2, ![2600, 512]⟩
abbrev S25x104x512 : Shape := ⟨3, ![25, 104, 512]⟩
abbrev S1x1x128 : Shape := ⟨3, ![1, 1, 128]⟩
abbrev S1x24x96x128 : Shape := ⟨4, ![1, 24, 96, 128]⟩
abbrev S4x98x104x128 : Shape := ⟨4, ![4, 98, 104, 128]⟩
abbrev S4x9216x128 : Shape := ⟨3, ![4, 9216, 128]⟩
abbrev S4x8x128 : Shape := ⟨3, ![4, 8, 128]⟩
abbrev S1x98x104x128 : Shape := ⟨4, ![1, 98, 104, 128]⟩
abbrev S1x9216x128 : Shape := ⟨3, ![1, 9216, 128]⟩
abbrev S1x8x128 : Shape := ⟨3, ![1, 8, 128]⟩
abbrev S1x24x104x128 : Shape := ⟨4, ![1, 24, 104, 128]⟩
abbrev S24x104x128 : Shape := ⟨3, ![24, 104, 128]⟩
abbrev S2496x128 : Shape := ⟨2, ![2496, 128]⟩
abbrev S2496x384 : Shape := ⟨2, ![2496, 384]⟩
abbrev S24x104x384 : Shape := ⟨3, ![24, 104, 384]⟩
abbrev S2304x128 : Shape := ⟨2, ![2304, 128]⟩
abbrev S2304 : Shape := ⟨1, ![2304]⟩
abbrev S2304x1 : Shape := ⟨2, ![2304, 1]⟩
abbrev S2304x512 : Shape := ⟨2, ![2304, 512]⟩
abbrev S1x2304x128 : Shape := ⟨3, ![1, 2304, 128]⟩
abbrev S1x1x1 : Shape := ⟨3, ![1, 1, 1]⟩
abbrev S8x128 : Shape := ⟨2, ![8, 128]⟩
abbrev S4x2x2x96x96x64 : Shape := ⟨6, ![4, 2, 2, 96, 96, 64]⟩
abbrev S1x2x2x96x96x64 : Shape := ⟨6, ![1, 2, 2, 96, 96, 64]⟩
abbrev S1x25x104x128 : Shape := ⟨4, ![1, 25, 104, 128]⟩
abbrev S25x104x128 : Shape := ⟨3, ![25, 104, 128]⟩
abbrev S2600x128 : Shape := ⟨2, ![2600, 128]⟩
abbrev S1x1x128x256 : Shape := ⟨4, ![1, 1, 128, 256]⟩
abbrev S2600x256 : Shape := ⟨2, ![2600, 256]⟩
abbrev S25x104x256 : Shape := ⟨3, ![25, 104, 256]⟩
abbrev S24x96x64 : Shape := ⟨3, ![24, 96, 64]⟩
abbrev S1x1x64 : Shape := ⟨3, ![1, 1, 64]⟩
abbrev S1x1x1x24x96x64 : Shape := ⟨6, ![1, 1, 1, 24, 96, 64]⟩
abbrev S4x96x2x96x2x64 : Shape := ⟨6, ![4, 96, 2, 96, 2, 64]⟩
abbrev S4x192x2x192x2 : Shape := ⟨5, ![4, 192, 2, 192, 2]⟩
abbrev S4x2x2x192x192 : Shape := ⟨5, ![4, 2, 2, 192, 192]⟩
abbrev S1x1 : Shape := ⟨2, ![1, 1]⟩
abbrev S1x194x194x64 : Shape := ⟨4, ![1, 194, 194, 64]⟩
abbrev S1x2x2x192x192 : Shape := ⟨5, ![1, 2, 2, 192, 192]⟩
abbrev S48x192 : Shape := ⟨2, ![48, 192]⟩
abbrev S1x48x192x64 : Shape := ⟨4, ![1, 48, 192, 64]⟩
abbrev S48x192x64 : Shape := ⟨3, ![48, 192, 64]⟩
abbrev S1x1x1x48x192 : Shape := ⟨5, ![1, 1, 1, 48, 192]⟩
abbrev S1x48x192 : Shape := ⟨3, ![1, 48, 192]⟩

abbrev nBuf : Space → Nat
  | .hbm => 324
  | .vmem => 44
  | .smem => 0
  | _ => 0

abbrev hbmTy0_0 (i : Nat) : BufTy := match i % 128 with
  | 0 => ⟨S4x1x384x384, .f32⟩
  | 1 => ⟨S64x1x4x4, .f32⟩
  | 2 => ⟨S64, .f32⟩
  | 3 => ⟨S128x64x4x4, .f32⟩
  | 4 => ⟨S128, .f32⟩
  | 5 => ⟨S128x128x3x3, .f32⟩
  | 6 => ⟨S128, .f32⟩
  | 7 => ⟨S512x128, .f32⟩
  | 8 => ⟨S128x128x3x3, .f32⟩
  | 9 => ⟨S128, .f32⟩
  | 10 => ⟨S128x64x4x4, .f32⟩
  | 11 => ⟨S64, .f32⟩
  | 12 => ⟨S64x1x4x4, .f32⟩
  | 13 => ⟨S1, .f32⟩
  | 14 => ⟨S64x4x4, .f32⟩
  | 15 => ⟨S64x16, .f32⟩
  | 16 => ⟨S16x64, .f32⟩
  | 17 => ⟨S8x8, .i32⟩
  | 18 => ⟨S8x8, .i32⟩
  | 19 => ⟨S_, .i32⟩
  | 20 => ⟨S8x8, .i32⟩
  | 21 => ⟨S8x8, .i32⟩
  | 22 => ⟨S8x8, .i1⟩
  | 23 => ⟨S8x8, .f32⟩
  | 24 => ⟨S8x1x8x1, .f32⟩
  | 25 => ⟨S1x16x1x64, .f32⟩
  | 26 => ⟨S8x16x8x64, .f32⟩
  | 27 => ⟨S8x16x8x64, .f32⟩
  | 28 => ⟨S8x16x8x64, .f32⟩
  | 29 => ⟨S128x512, .f32⟩
  | 30 => ⟨S1x64, .f32⟩
  | 31 => ⟨S8x64, .f32⟩
  | 32 => ⟨S512, .f32⟩
  | 33 => ⟨S1x512, .f32⟩
  | 34 => ⟨S128x64x1x1, .f32⟩
  | 35 => ⟨S128x64, .f32⟩
  | 36 => ⟨S64x128, .f32⟩
  | 37 => ⟨S128x64x1x1, .f32⟩
  | 38 => ⟨S128x64, .f32⟩
  | 39 => ⟨S64x128, .f32⟩
  | 40 => ⟨S128x64x1x1, .f32⟩
  | 41 => ⟨S128x64, .f32⟩
  | 42 => ⟨S64x128, .f32⟩
  | 43 => ⟨S128x64x1x1, .f32⟩
  | 44 => ⟨S128x64, .f32⟩
  | 45 => ⟨S64x128, .f32⟩
  | 46 => ⟨S64x512, .f32⟩
  | 47 => ⟨S128x64x1x1, .f32⟩
  | 48 => ⟨S128x64, .f32⟩
  | 49 => ⟨S64x128, .f32⟩
  | 50 => ⟨S128x64x1x1, .f32⟩
  | 51 => ⟨S128x64, .f32⟩
  | 52 => ⟨S64x128, .f32⟩
  | 53 => ⟨S128x64x1x1, .f32⟩
  | 54 => ⟨S128x64, .f32⟩
  | 55 => ⟨S64x128, .f32⟩
  | 56 => ⟨S128x64x1x1, .f32⟩
  | 57 => ⟨S128x64, .f32⟩
  | 58 => ⟨S64x128, .f32⟩
  | 59 => ⟨S64x512, .f32⟩
  | 60 => ⟨S1x64x512, .f32⟩
  | 61 => ⟨S1x64x512, .f32⟩
  | 62 => ⟨S2x64x512, .f32⟩
  | 63 => ⟨S128x64x1x1, .f32⟩
  | 64 => ⟨S128x64, .f32⟩
  | 65 => ⟨S64x128, .f32⟩
  | 66 => ⟨S128x64x1x1, .f32⟩
  | 67 => ⟨S128x64, .f32⟩
  | 68 => ⟨S64x128, .f32⟩
  | 69 => ⟨S128x64x1x1, .f32⟩
  | 70 => ⟨S128x64, .f32⟩
  | 71 => ⟨S64x128, .f32⟩
  | 72 => ⟨S128x64x1x1, .f32⟩
  | 73 => ⟨S128x64, .f32⟩
  | 74 => ⟨S64x128, .f32⟩
  | 75 => ⟨S64x512, .f32⟩
  | 76 => ⟨S128x64x1x1, .f32⟩
  | 77 => ⟨S128x64, .f32⟩
  | 78 => ⟨S64x128, .f32⟩
  | 79 => ⟨S128x64x1x1, .f32⟩
  | 80 => ⟨S128x64, .f32⟩
  | 81 => ⟨S64x128, .f32⟩
  | 82 => ⟨S128x64x1x1, .f32⟩
  | 83 => ⟨S128x64, .f32⟩
  | 84 => ⟨S64x128, .f32⟩
  | 85 => ⟨S128x64x1x1, .f32⟩
  | 86 => ⟨S128x64, .f32⟩
  | 87 => ⟨S64x128, .f32⟩
  | 88 => ⟨S64x512, .f32⟩
  | 89 => ⟨S1x64x512, .f32⟩
  | 90 => ⟨S1x64x512, .f32⟩
  | 91 => ⟨S2x64x512, .f32⟩
  | 92 => ⟨S1x2x64x512, .f32⟩
  | 93 => ⟨S1x2x64x512, .f32⟩
  | 94 => ⟨S2x2x64x512, .f32⟩
  | 95 => ⟨S128x128x1x1, .f32⟩
  | 96 => ⟨S128x128, .f32⟩
  | 97 => ⟨S128x128, .f32⟩
  | 98 => ⟨S128x128x1x1, .f32⟩
  | 99 => ⟨S128x128, .f32⟩
  | 100 => ⟨S128x128, .f32⟩
  | 101 => ⟨S128x128x1x1, .f32⟩
  | 102 => ⟨S128x128, .f32⟩
  | 103 => ⟨S128x128, .f32⟩
  | 104 => ⟨S128x384, .f32⟩
  | 105 => ⟨S128x128x1x1, .f32⟩
  | 106 => ⟨S128x128, .f32⟩
  | 107 => ⟨S128x128, .f32⟩
  | 108 => ⟨S128x128x1x1, .f32⟩
  | 109 => ⟨S128x128, .f32⟩
  | 110 => ⟨S128x128, .f32⟩
  | 111 => ⟨S128x128x1x1, .f32⟩
  | 112 => ⟨S128x128, .f32⟩
  | 113 => ⟨S128x128, .f32⟩
  | 114 => ⟨S128x384, .f32⟩
  | 115 => ⟨S128x128x1x1, .f32⟩
  | 116 => ⟨S128x128, .f32⟩
  | 117 => ⟨S128x128, .f32⟩
  | 118 => ⟨S128x128x1x1, .f32⟩
  | 119 => ⟨S128x128, .f32⟩
  | 120 => ⟨S128x128, .f32⟩
  | 121 => ⟨S128x128x1x1, .f32⟩
  | 122 => ⟨S128x128, .f32⟩
  | 123 => ⟨S128x128, .f32⟩
  | 124 => ⟨S128x384, .f32⟩
  | 125 => ⟨S1x128x384, .f32⟩
  | 126 => ⟨S1x128x384, .f32⟩
  | 127 => ⟨S1x128x384, .f32⟩
  | _ => ⟨S4x1x384x384, .f32⟩

abbrev hbmTy0_1 (i : Nat) : BufTy := match i % 128 with
  | 0 => ⟨S3x128x384, .f32⟩
  | 1 => ⟨S128x128x1x1, .f32⟩
  | 2 => ⟨S128x128, .f32⟩
  | 3 => ⟨S128x128, .f32⟩
  | 4 => ⟨S128x128x1x1, .f32⟩
  | 5 => ⟨S128x128, .f32⟩
  | 6 => ⟨S128x128, .f32⟩
  | 7 => ⟨S128x128x1x1, .f32⟩
  | 8 => ⟨S128x128, .f32⟩
  | 9 => ⟨S128x128, .f32⟩
  | 10 => ⟨S128x384, .f32⟩
  | 11 => ⟨S128x128x1x1, .f32⟩
  | 12 => ⟨S128x128, .f32⟩
  | 13 => ⟨S128x128, .f32⟩
  | 14 => ⟨S128x128x1x1, .f32⟩
  | 15 => ⟨S128x128, .f32⟩
  | 16 => ⟨S128x128, .f32⟩
  | 17 => ⟨S128x128x1x1, .f32⟩
  | 18 => ⟨S128x128, .f32⟩
  | 19 => ⟨S128x128, .f32⟩
  | 20 => ⟨S128x384, .f32⟩
  | 21 => ⟨S128x128x1x1, .f32⟩
  | 22 => ⟨S128x128, .f32⟩
  | 23 => ⟨S128x128, .f32⟩
  | 24 => ⟨S128x128x1x1, .f32⟩
  | 25 => ⟨S128x128, .f32⟩
  | 26 => ⟨S128x128, .f32⟩
  | 27 => ⟨S128x128x1x1, .f32⟩
  | 28 => ⟨S128x128, .f32⟩
  | 29 => ⟨S128x128, .f32⟩
  | 30 => ⟨S128x384, .f32⟩
  | 31 => ⟨S1x128x384, .f32⟩
  | 32 => ⟨S1x128x384, .f32⟩
  | 33 => ⟨S1x128x384, .f32⟩
  | 34 => ⟨S3x128x384, .f32⟩
  | 35 => ⟨S128x64x4x4, .f32⟩
  | 36 => ⟨S128x64x1x1, .f32⟩
  | 37 => ⟨S128x64, .f32⟩
  | 38 => ⟨S128x64x1x1, .f32⟩
  | 39 => ⟨S128x64, .f32⟩
  | 40 => ⟨S128x64x1x1, .f32⟩
  | 41 => ⟨S128x64, .f32⟩
  | 42 => ⟨S128x64x1x1, .f32⟩
  | 43 => ⟨S128x64, .f32⟩
  | 44 => ⟨S128x256, .f32⟩
  | 45 => ⟨S128x64x1x1, .f32⟩
  | 46 => ⟨S128x64, .f32⟩
  | 47 => ⟨S128x64x1x1, .f32⟩
  | 48 => ⟨S128x64, .f32⟩
  | 49 => ⟨S128x64x1x1, .f32⟩
  | 50 => ⟨S128x64, .f32⟩
  | 51 => ⟨S128x64x1x1, .f32⟩
  | 52 => ⟨S128x64, .f32⟩
  | 53 => ⟨S128x256, .f32⟩
  | 54 => ⟨S1x128x256, .f32⟩
  | 55 => ⟨S1x128x256, .f32⟩
  | 56 => ⟨S2x128x256, .f32⟩
  | 57 => ⟨S128x64x1x1, .f32⟩
  | 58 => ⟨S128x64, .f32⟩
  | 59 => ⟨S128x64x1x1, .f32⟩
  | 60 => ⟨S128x64, .f32⟩
  | 61 => ⟨S128x64x1x1, .f32⟩
  | 62 => ⟨S128x64, .f32⟩
  | 63 => ⟨S128x64x1x1, .f32⟩
  | 64 => ⟨S128x64, .f32⟩
  | 65 => ⟨S128x256, .f32⟩
  | 66 => ⟨S128x64x1x1, .f32⟩
  | 67 => ⟨S128x64, .f32⟩
  | 68 => ⟨S128x64x1x1, .f32⟩
  | 69 => ⟨S128x64, .f32⟩
  | 70 => ⟨S128x64x1x1, .f32⟩
  | 71 => ⟨S128x64, .f32⟩
  | 72 => ⟨S128x64x1x1, .f32⟩
  | 73 => ⟨S128x64, .f32⟩
  | 74 => ⟨S128x256, .f32⟩
  | 75 => ⟨S1x128x256, .f32⟩
  | 76 => ⟨S1x128x256, .f32⟩
  | 77 => ⟨S2x128x256, .f32⟩
  | 78 => ⟨S1x2x128x256, .f32⟩
  | 79 => ⟨S1x2x128x256, .f32⟩
  | 80 => ⟨S2x2x128x256, .f32⟩
  | 81 => ⟨S64x1x4x4, .f32⟩
  | 82 => ⟨S64x4x4, .f32⟩
  | 83 => ⟨S4x4x64, .f32⟩
  | 84 => ⟨S512x128, .f32⟩
  | 85 => ⟨S_, .f32⟩
  | 86 => ⟨S512, .f32⟩
  | 87 => ⟨S1x512, .f32⟩
  | 88 => ⟨S4x384x384, .f32⟩
  | 89 => ⟨S_, .i32⟩
  | 90 => ⟨S_, .f32⟩
  | 91 => ⟨S4x386x386, .f32⟩
  | 92 => ⟨S4x193x2x193x2, .f32⟩
  | 93 => ⟨S4x2x2x193x193, .f32⟩
  | 94 => ⟨S4x1x1x192x192, .f32⟩
  | 95 => ⟨S4x192x192, .f32⟩
  | 96 => ⟨S4x1x1x192x192, .f32⟩
  | 97 => ⟨S4x192x192, .f32⟩
  | 98 => ⟨S4x1x1x192x192, .f32⟩
  | 99 => ⟨S4x192x192, .f32⟩
  | 100 => ⟨S4x1x1x192x192, .f32⟩
  | 101 => ⟨S4x192x192, .f32⟩
  | 102 => ⟨S4x1x1x192x192, .f32⟩
  | 103 => ⟨S4x192x192, .f32⟩
  | 104 => ⟨S4x1x1x192x192, .f32⟩
  | 105 => ⟨S4x192x192, .f32⟩
  | 106 => ⟨S4x1x1x192x192, .f32⟩
  | 107 => ⟨S4x192x192, .f32⟩
  | 108 => ⟨S4x1x1x192x192, .f32⟩
  | 109 => ⟨S4x192x192, .f32⟩
  | 110 => ⟨S4x1x1x192x192, .f32⟩
  | 111 => ⟨S4x192x192, .f32⟩
  | 112 => ⟨S4x1x1x192x192, .f32⟩
  | 113 => ⟨S4x192x192, .f32⟩
  | 114 => ⟨S4x1x1x192x192, .f32⟩
  | 115 => ⟨S4x192x192, .f32⟩
  | 116 => ⟨S4x1x1x192x192, .f32⟩
  | 117 => ⟨S4x192x192, .f32⟩
  | 118 => ⟨S4x1x1x192x192, .f32⟩
  | 119 => ⟨S4x192x192, .f32⟩
  | 120 => ⟨S4x1x1x192x192, .f32⟩
  | 121 => ⟨S4x192x192, .f32⟩
  | 122 => ⟨S4x1x1x192x192, .f32⟩
  | 123 => ⟨S4x192x192, .f32⟩
  | 124 => ⟨S4x1x1x192x192, .f32⟩
  | 125 => ⟨S4x192x192, .f32⟩
  | 126 => ⟨S4x192x192x1, .f32⟩
  | 127 => ⟨S4x192x192x1, .f32⟩
  | _ => ⟨S4x1x384x384, .f32⟩

abbrev hbmTy0_2 (i : Nat) : BufTy := match i % 128 with
  | 0 => ⟨S4x192x192x1, .f32⟩
  | 1 => ⟨S4x192x192x1, .f32⟩
  | 2 => ⟨S4x192x192x1, .f32⟩
  | 3 => ⟨S4x192x192x1, .f32⟩
  | 4 => ⟨S4x192x192x1, .f32⟩
  | 5 => ⟨S4x192x192x1, .f32⟩
  | 6 => ⟨S4x192x192x1, .f32⟩
  | 7 => ⟨S4x192x192x1, .f32⟩
  | 8 => ⟨S4x192x192x1, .f32⟩
  | 9 => ⟨S4x192x192x1, .f32⟩
  | 10 => ⟨S4x192x192x1, .f32⟩
  | 11 => ⟨S4x192x192x1, .f32⟩
  | 12 => ⟨S4x192x192x1, .f32⟩
  | 13 => ⟨S4x192x192x1, .f32⟩
  | 14 => ⟨S4x192x192x16, .f32⟩
  | 15 => ⟨S4x4608x128, .f32⟩
  | 16 => ⟨S4x4608x512, .f32⟩
  | 17 => ⟨S4x192x192x64, .f32⟩
  | 18 => ⟨S_, .i32⟩
  | 19 => ⟨S_, .f32⟩
  | 20 => ⟨S4x194x194x64, .f32⟩
  | 21 => ⟨S4x97x2x97x2x64, .f32⟩
  | 22 => ⟨S4x2x2x97x97x64, .f32⟩
  | 23 => ⟨S_, .i32⟩
  | 24 => ⟨S_, .f32⟩
  | 25 => ⟨S4x2x2x97x104x64, .f32⟩
  | 26 => ⟨S1x128, .f32⟩
  | 27 => ⟨S4x96x96x128, .f32⟩
  | 28 => ⟨S_, .i32⟩
  | 29 => ⟨S_, .f32⟩
  | 30 => ⟨S4x98x104x128, .f32⟩
  | 31 => ⟨S1x128, .f32⟩
  | 32 => ⟨S4x9216x128, .f32⟩
  | 33 => ⟨S4x8x128, .f32⟩
  | 34 => ⟨S4x96x96x128, .f32⟩
  | 35 => ⟨S_, .i32⟩
  | 36 => ⟨S_, .f32⟩
  | 37 => ⟨S4x98x104x128, .f32⟩
  | 38 => ⟨S1x128, .f32⟩
  | 39 => ⟨S4x96x96x128, .f32⟩
  | 40 => ⟨S_, .i32⟩
  | 41 => ⟨S_, .f32⟩
  | 42 => ⟨S4x98x104x128, .f32⟩
  | 43 => ⟨S1x64, .f32⟩
  | 44 => ⟨S4x2x2x96x96x64, .f32⟩
  | 45 => ⟨S4x96x2x96x2x64, .f32⟩
  | 46 => ⟨S4x192x192x64, .f32⟩
  | 47 => ⟨S_, .i32⟩
  | 48 => ⟨S_, .f32⟩
  | 49 => ⟨S4x194x194x64, .f32⟩
  | 50 => ⟨S4x384x384, .f32⟩
  | 51 => ⟨S4x192x2x192x2, .f32⟩
  | 52 => ⟨S4x2x2x192x192, .f32⟩
  | 53 => ⟨S1x1, .f32⟩
  | 54 => ⟨S4x2x2x192x192, .f32⟩
  | 55 => ⟨S4x8x128, .f32⟩
  | 56 => ⟨S4x192x2x192x2, .f32⟩
  | 57 => ⟨S4x1x384x384, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | _ => ⟨S4x1x384x384, .f32⟩

abbrev hbmTy (i : Nat) : BufTy := match i / 128 with
  | 0 => hbmTy0_0 i
  | 1 => hbmTy0_1 i
  | 2 => hbmTy0_2 i
  | _ => ⟨S4x1x384x384, .f32⟩

abbrev bufTy : (tb : Table) → Fin (tcTables nBuf tb) → BufTy
  | .hbm, ⟨i, _⟩ => hbmTy i
  | .local _ .vmem, ⟨0, _⟩ => ⟨S1x4608x128, .f32⟩
  | .local _ .vmem, ⟨1, _⟩ => ⟨S1x4608x128, .f32⟩
  | .local _ .vmem, ⟨2, _⟩ => ⟨S128x512, .f32⟩
  | .local _ .vmem, ⟨3, _⟩ => ⟨S1x512, .f32⟩
  | .local _ .vmem, ⟨4, _⟩ => ⟨S1x4608x512, .f32⟩
  | .local _ .vmem, ⟨5, _⟩ => ⟨S1x4608x512, .f32⟩
  | .local _ .vmem, ⟨6, _⟩ => ⟨S1x2x2x97x104x64, .f32⟩
  | .local _ .vmem, ⟨7, _⟩ => ⟨S1x2x2x97x104x64, .f32⟩
  | .local _ .vmem, ⟨8, _⟩ => ⟨S2x2x64x512, .f32⟩
  | .local _ .vmem, ⟨9, _⟩ => ⟨S1x128, .f32⟩
  | .local _ .vmem, ⟨10, _⟩ => ⟨S1x96x96x128, .f32⟩
  | .local _ .vmem, ⟨11, _⟩ => ⟨S1x96x96x128, .f32⟩
  | .local _ .vmem, ⟨12, _⟩ => ⟨S1x98x104x128, .f32⟩
  | .local _ .vmem, ⟨13, _⟩ => ⟨S1x98x104x128, .f32⟩
  | .local _ .vmem, ⟨14, _⟩ => ⟨S3x128x384, .f32⟩
  | .local _ .vmem, ⟨15, _⟩ => ⟨S1x128, .f32⟩
  | .local _ .vmem, ⟨16, _⟩ => ⟨S512x128, .f32⟩
  | .local _ .vmem, ⟨17, _⟩ => ⟨S1x512, .f32⟩
  | .local _ .vmem, ⟨18, _⟩ => ⟨S1x9216x128, .f32⟩
  | .local _ .vmem, ⟨19, _⟩ => ⟨S1x9216x128, .f32⟩
  | .local _ .vmem, ⟨20, _⟩ => ⟨S1x8x128, .f32⟩
  | .local _ .vmem, ⟨21, _⟩ => ⟨S1x8x128, .f32⟩
  | .local _ .vmem, ⟨22, _⟩ => ⟨S1x98x104x128, .f32⟩
  | .local _ .vmem, ⟨23, _⟩ => ⟨S1x98x104x128, .f32⟩
  | .local _ .vmem, ⟨24, _⟩ => ⟨S3x128x384, .f32⟩
  | .local _ .vmem, ⟨25, _⟩ => ⟨S1x128, .f32⟩
  | .local _ .vmem, ⟨26, _⟩ => ⟨S1x96x96x128, .f32⟩
  | .local _ .vmem, ⟨27, _⟩ => ⟨S1x96x96x128, .f32⟩
  | .local _ .vmem, ⟨28, _⟩ => ⟨S1x98x104x128, .f32⟩
  | .local _ .vmem, ⟨29, _⟩ => ⟨S1x98x104x128, .f32⟩
  | .local _ .vmem, ⟨30, _⟩ => ⟨S2x2x128x256, .f32⟩
  | .local _ .vmem, ⟨31, _⟩ => ⟨S1x64, .f32⟩
  | .local _ .vmem, ⟨32, _⟩ => ⟨S1x2x2x96x96x64, .f32⟩
  | .local _ .vmem, ⟨33, _⟩ => ⟨S1x2x2x96x96x64, .f32⟩
  | .local _ .vmem, ⟨34, _⟩ => ⟨S1x194x194x64, .f32⟩
  | .local _ .vmem, ⟨35, _⟩ => ⟨S1x194x194x64, .f32⟩
  | .local _ .vmem, ⟨36, _⟩ => ⟨S1x2x2x192x192, .f32⟩
  | .local _ .vmem, ⟨37, _⟩ => ⟨S1x2x2x192x192, .f32⟩
  | .local _ .vmem, ⟨38, _⟩ => ⟨S4x4x64, .f32⟩
  | .local _ .vmem, ⟨39, _⟩ => ⟨S1x1, .f32⟩
  | .local _ .vmem, ⟨40, _⟩ => ⟨S1x2x2x192x192, .f32⟩
  | .local _ .vmem, ⟨41, _⟩ => ⟨S1x2x2x192x192, .f32⟩
  | .local _ .vmem, ⟨42, _⟩ => ⟨S1x8x128, .f32⟩
  | .local _ .vmem, ⟨43, _⟩ => ⟨S1x8x128, .f32⟩
  | _, _ => ⟨S4x1x384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_v134 : Ref sig .tc := ⟨.hbm, 154, rfl⟩
abbrev main_v135 : Ref sig .tc := ⟨.hbm, 155, rfl⟩
abbrev main_v136 : Ref sig .tc := ⟨.hbm, 156, rfl⟩
abbrev main_v137 : Ref sig .tc := ⟨.hbm, 157, rfl⟩
abbrev main_v138 : Ref sig .tc := ⟨.hbm, 158, rfl⟩
abbrev main_v139 : Ref sig .tc := ⟨.hbm, 159, rfl⟩
abbrev main_v140 : Ref sig .tc := ⟨.hbm, 160, rfl⟩
abbrev main_v141 : Ref sig .tc := ⟨.hbm, 161, rfl⟩
abbrev main_v142 : Ref sig .tc := ⟨.hbm, 162, rfl⟩
abbrev main_v143 : Ref sig .tc := ⟨.hbm, 163, rfl⟩
abbrev main_v144 : Ref sig .tc := ⟨.hbm, 164, rfl⟩
abbrev main_v145 : Ref sig .tc := ⟨.hbm, 165, rfl⟩
abbrev main_v146 : Ref sig .tc := ⟨.hbm, 166, rfl⟩
abbrev main_v147 : Ref sig .tc := ⟨.hbm, 167, rfl⟩
abbrev main_v148 : Ref sig .tc := ⟨.hbm, 168, rfl⟩
abbrev main_v149 : Ref sig .tc := ⟨.hbm, 169, rfl⟩
abbrev main_v150 : Ref sig .tc := ⟨.hbm, 170, rfl⟩
abbrev main_v151 : Ref sig .tc := ⟨.hbm, 171, rfl⟩
abbrev main_v152 : Ref sig .tc := ⟨.hbm, 172, rfl⟩
abbrev main_v153 : Ref sig .tc := ⟨.hbm, 173, rfl⟩
abbrev main_v154 : Ref sig .tc := ⟨.hbm, 174, rfl⟩
abbrev main_v155 : Ref sig .tc := ⟨.hbm, 175, rfl⟩
abbrev main_v156 : Ref sig .tc := ⟨.hbm, 176, rfl⟩
abbrev main_v157 : Ref sig .tc := ⟨.hbm, 177, rfl⟩
abbrev main_v158 : Ref sig .tc := ⟨.hbm, 178, rfl⟩
abbrev main_v159 : Ref sig .tc := ⟨.hbm, 179, rfl⟩
abbrev main_v160 : Ref sig .tc := ⟨.hbm, 180, rfl⟩
abbrev main_v161 : Ref sig .tc := ⟨.hbm, 181, rfl⟩
abbrev main_v162 : Ref sig .tc := ⟨.hbm, 182, rfl⟩
abbrev main_v163 : Ref sig .tc := ⟨.hbm, 183, rfl⟩
abbrev main_v164 : Ref sig .tc := ⟨.hbm, 184, rfl⟩
abbrev main_v165 : Ref sig .tc := ⟨.hbm, 185, rfl⟩
abbrev main_v166 : Ref sig .tc := ⟨.hbm, 186, rfl⟩
abbrev main_v167 : Ref sig .tc := ⟨.hbm, 187, rfl⟩
abbrev main_v168 : Ref sig .tc := ⟨.hbm, 188, rfl⟩
abbrev main_v169 : Ref sig .tc := ⟨.hbm, 189, rfl⟩
abbrev main_v170 : Ref sig .tc := ⟨.hbm, 190, rfl⟩
abbrev main_v171 : Ref sig .tc := ⟨.hbm, 191, rfl⟩
abbrev main_v172 : Ref sig .tc := ⟨.hbm, 192, rfl⟩
abbrev main_v173 : Ref sig .tc := ⟨.hbm, 193, rfl⟩
abbrev main_v174 : Ref sig .tc := ⟨.hbm, 194, rfl⟩
abbrev main_v175 : Ref sig .tc := ⟨.hbm, 195, rfl⟩
abbrev main_v176 : Ref sig .tc := ⟨.hbm, 196, rfl⟩
abbrev main_v177 : Ref sig .tc := ⟨.hbm, 197, rfl⟩
abbrev main_v178 : Ref sig .tc := ⟨.hbm, 198, rfl⟩
abbrev main_v179 : Ref sig .tc := ⟨.hbm, 199, rfl⟩
abbrev main_v180 : Ref sig .tc := ⟨.hbm, 200, rfl⟩
abbrev main_v181 : Ref sig .tc := ⟨.hbm, 201, rfl⟩
abbrev main_v182 : Ref sig .tc := ⟨.hbm, 202, rfl⟩
abbrev main_v183 : Ref sig .tc := ⟨.hbm, 203, rfl⟩
abbrev main_v184 : Ref sig .tc := ⟨.hbm, 204, rfl⟩
abbrev main_v185 : Ref sig .tc := ⟨.hbm, 205, rfl⟩
abbrev main_v186 : Ref sig .tc := ⟨.hbm, 206, rfl⟩
abbrev main_v187 : Ref sig .tc := ⟨.hbm, 207, rfl⟩
abbrev main_v188 : Ref sig .tc := ⟨.hbm, 208, rfl⟩
abbrev main_v189 : Ref sig .tc := ⟨.hbm, 209, rfl⟩
abbrev main_v190 : Ref sig .tc := ⟨.hbm, 210, rfl⟩
abbrev main_v191 : Ref sig .tc := ⟨.hbm, 211, rfl⟩
abbrev main_v192 : Ref sig .tc := ⟨.hbm, 212, rfl⟩
abbrev main_cst : Ref sig .tc := ⟨.hbm, 213, rfl⟩
abbrev main_v193 : Ref sig .tc := ⟨.hbm, 214, rfl⟩
abbrev main_v194 : Ref sig .tc := ⟨.hbm, 215, rfl⟩
abbrev main_v195 : Ref sig .tc := ⟨.hbm, 216, rfl⟩
abbrev main_c_0 : Ref sig .tc := ⟨.hbm, 217, rfl⟩
abbrev main_call3_v0 : Ref sig .tc := ⟨.hbm, 218, rfl⟩
abbrev main_v196 : Ref sig .tc := ⟨.hbm, 219, rfl⟩
abbrev main_v197 : Ref sig .tc := ⟨.hbm, 220, rfl⟩
abbrev main_v198 : Ref sig .tc := ⟨.hbm, 221, rfl⟩
abbrev main_v199 : Ref sig .tc := ⟨.hbm, 222, rfl⟩
abbrev main_v200 : Ref sig .tc := ⟨.hbm, 223, rfl⟩
abbrev main_v201 : Ref sig .tc := ⟨.hbm, 224, rfl⟩
abbrev main_v202 : Ref sig .tc := ⟨.hbm, 225, rfl⟩
abbrev main_v203 : Ref sig .tc := ⟨.hbm, 226, rfl⟩
abbrev main_v204 : Ref sig .tc := ⟨.hbm, 227, rfl⟩
abbrev main_v205 : Ref sig .tc := ⟨.hbm, 228, rfl⟩
abbrev main_v206 : Ref sig .tc := ⟨.hbm, 229, rfl⟩
abbrev main_v207 : Ref sig .tc := ⟨.hbm, 230, rfl⟩
abbrev main_v208 : Ref sig .tc := ⟨.hbm, 231, rfl⟩
abbrev main_v209 : Ref sig .tc := ⟨.hbm, 232, rfl⟩
abbrev main_v210 : Ref sig .tc := ⟨.hbm, 233, rfl⟩
abbrev main_v211 : Ref sig .tc := ⟨.hbm, 234, rfl⟩
abbrev main_v212 : Ref sig .tc := ⟨.hbm, 235, rfl⟩
abbrev main_v213 : Ref sig .tc := ⟨.hbm, 236, rfl⟩
abbrev main_v214 : Ref sig .tc := ⟨.hbm, 237, rfl⟩
abbrev main_v215 : Ref sig .tc := ⟨.hbm, 238, rfl⟩
abbrev main_v216 : Ref sig .tc := ⟨.hbm, 239, rfl⟩
abbrev main_v217 : Ref sig .tc := ⟨.hbm, 240, rfl⟩
abbrev main_v218 : Ref sig .tc := ⟨.hbm, 241, rfl⟩
abbrev main_v219 : Ref sig .tc := ⟨.hbm, 242, rfl⟩
abbrev main_v220 : Ref sig .tc := ⟨.hbm, 243, rfl⟩
abbrev main_v221 : Ref sig .tc := ⟨.hbm, 244, rfl⟩
abbrev main_v222 : Ref sig .tc := ⟨.hbm, 245, rfl⟩
abbrev main_v223 : Ref sig .tc := ⟨.hbm, 246, rfl⟩
abbrev main_v224 : Ref sig .tc := ⟨.hbm, 247, rfl⟩
abbrev main_v225 : Ref sig .tc := ⟨.hbm, 248, rfl⟩
abbrev main_v226 : Ref sig .tc := ⟨.hbm, 249, rfl⟩
abbrev main_v227 : Ref sig .tc := ⟨.hbm, 250, rfl⟩
abbrev main_v228 : Ref sig .tc := ⟨.hbm, 251, rfl⟩
abbrev main_v229 : Ref sig .tc := ⟨.hbm, 252, rfl⟩
abbrev main_v230 : Ref sig .tc := ⟨.hbm, 253, rfl⟩
abbrev main_v231 : Ref sig .tc := ⟨.hbm, 254, rfl⟩
abbrev main_v232 : Ref sig .tc := ⟨.hbm, 255, rfl⟩
abbrev main_v233 : Ref sig .tc := ⟨.hbm, 256, rfl⟩
abbrev main_v234 : Ref sig .tc := ⟨.hbm, 257, rfl⟩
abbrev main_v235 : Ref sig .tc := ⟨.hbm, 258, rfl⟩
abbrev main_v236 : Ref sig .tc := ⟨.hbm, 259, rfl⟩
abbrev main_v237 : Ref sig .tc := ⟨.hbm, 260, rfl⟩
abbrev main_v238 : Ref sig .tc := ⟨.hbm, 261, rfl⟩
abbrev main_v239 : Ref sig .tc := ⟨.hbm, 262, rfl⟩
abbrev main_v240 : Ref sig .tc := ⟨.hbm, 263, rfl⟩
abbrev main_v241 : Ref sig .tc := ⟨.hbm, 264, rfl⟩
abbrev main_v242 : Ref sig .tc := ⟨.hbm, 265, rfl⟩
abbrev main_v243 : Ref sig .tc := ⟨.hbm, 266, rfl⟩
abbrev main_v244 : Ref sig .tc := ⟨.hbm, 267, rfl⟩
abbrev main_v245 : Ref sig .tc := ⟨.hbm, 268, rfl⟩
abbrev main_v246 : Ref sig .tc := ⟨.hbm, 269, rfl⟩
abbrev main_v247 : Ref sig .tc := ⟨.hbm, 270, rfl⟩
abbrev main_v248 : Ref sig .tc := ⟨.hbm, 271, rfl⟩
abbrev main_v249 : Ref sig .tc := ⟨.hbm, 272, rfl⟩
abbrev main_v250 : Ref sig .tc := ⟨.hbm, 273, rfl⟩
abbrev main_c_1 : Ref sig .tc := ⟨.hbm, 274, rfl⟩
abbrev main_call4_v0 : Ref sig .tc := ⟨.hbm, 275, rfl⟩
abbrev main_v251 : Ref sig .tc := ⟨.hbm, 276, rfl⟩
abbrev main_v252 : Ref sig .tc := ⟨.hbm, 277, rfl⟩
abbrev main_v253 : Ref sig .tc := ⟨.hbm, 278, rfl⟩
abbrev main_c_2 : Ref sig .tc := ⟨.hbm, 279, rfl⟩
abbrev main_call5_v0 : Ref sig .tc := ⟨.hbm, 280, rfl⟩
abbrev main_v254 : Ref sig .tc := ⟨.hbm, 281, rfl⟩
abbrev main_v255 : Ref sig .tc := ⟨.hbm, 282, rfl⟩
abbrev main_v256 : Ref sig .tc := ⟨.hbm, 283, rfl⟩
abbrev main_c_3 : Ref sig .tc := ⟨.hbm, 284, rfl⟩
abbrev main_call6_v0 : Ref sig .tc := ⟨.hbm, 285, rfl⟩
abbrev main_v257 : Ref sig .tc := ⟨.hbm, 286, rfl⟩
abbrev main_v258 : Ref sig .tc := ⟨.hbm, 287, rfl⟩
abbrev main_v259_0 : Ref sig .tc := ⟨.hbm, 288, rfl⟩
abbrev main_v259_1 : Ref sig .tc := ⟨.hbm, 289, rfl⟩
abbrev main_v260 : Ref sig .tc := ⟨.hbm, 290, rfl⟩
abbrev main_c_4 : Ref sig .tc := ⟨.hbm, 291, rfl⟩
abbrev main_call7_v0 : Ref sig .tc := ⟨.hbm, 292, rfl⟩
abbrev main_v261 : Ref sig .tc := ⟨.hbm, 293, rfl⟩
abbrev main_v262 : Ref sig .tc := ⟨.hbm, 294, rfl⟩
abbrev main_v263 : Ref sig .tc := ⟨.hbm, 295, rfl⟩
abbrev main_c_5 : Ref sig .tc := ⟨.hbm, 296, rfl⟩
abbrev main_call8_v0 : Ref sig .tc := ⟨.hbm, 297, rfl⟩
abbrev main_v264 : Ref sig .tc := ⟨.hbm, 298, rfl⟩
abbrev main_v265 : Ref sig .tc := ⟨.hbm, 299, rfl⟩
abbrev main_v266 : Ref sig .tc := ⟨.hbm, 300, rfl⟩
abbrev main_v267 : Ref sig .tc := ⟨.hbm, 301, rfl⟩
abbrev main_v268 : Ref sig .tc := ⟨.hbm, 302, rfl⟩
abbrev main_c_6 : Ref sig .tc := ⟨.hbm, 303, rfl⟩
abbrev main_call9_v0 : Ref sig .tc := ⟨.hbm, 304, rfl⟩
abbrev main_v269 : Ref sig .tc := ⟨.hbm, 305, rfl⟩
abbrev main_v270 : Ref sig .tc := ⟨.hbm, 306, rfl⟩
abbrev main_v271 : Ref sig .tc := ⟨.hbm, 307, rfl⟩
abbrev main_v272 : Ref sig .tc := ⟨.hbm, 308, rfl⟩
abbrev main_v273 : Ref sig .tc := ⟨.hbm, 309, rfl⟩
abbrev main_v274_0 : Ref sig .tc := ⟨.hbm, 310, rfl⟩
abbrev main_v274_1 : Ref sig .tc := ⟨.hbm, 311, rfl⟩
abbrev main_v275 : Ref sig .tc := ⟨.hbm, 312, rfl⟩
abbrev main_v276 : Ref sig .tc := ⟨.hbm, 313, rfl⟩
abbrev main_cst_7 : Ref sig .tc := ⟨.hbm, 314, rfl⟩
abbrev main_v277 : Ref sig .tc := ⟨.hbm, 315, rfl⟩
abbrev main_cst_8 : Ref sig .tc := ⟨.hbm, 316, rfl⟩
abbrev main_v278 : Ref sig .tc := ⟨.hbm, 317, rfl⟩
abbrev main_cst_9 : Ref sig .tc := ⟨.hbm, 318, rfl⟩
abbrev main_v279 : Ref sig .tc := ⟨.hbm, 319, rfl⟩
abbrev main_cst_10 : Ref sig .tc := ⟨.hbm, 320, rfl⟩
abbrev main_v280 : Ref sig .tc := ⟨.hbm, 321, rfl⟩
abbrev main_v281 : Ref sig .tc := ⟨.hbm, 322, rfl⟩
abbrev main_v282 : Ref sig .tc := ⟨.hbm, 323, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg5_1 : Ref sig .tc := ⟨.vmem, 19, rfl⟩
abbrev cc2_stg6_0 : Ref sig .tc := ⟨.vmem, 20, rfl⟩
abbrev cc2_stg6_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg1_1 : Ref sig .tc := ⟨.vmem, 37, rfl⟩
abbrev cc5_stg2_0 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc5_stg5_0 : Ref sig .tc := ⟨.vmem, 42, rfl⟩
abbrev cc5_stg5_1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem5_0 : DmaSem sig := 18
abbrev cc2_sem5_1 : DmaSem sig := 19
abbrev cc2_sem6_0 : DmaSem sig := 20
abbrev cc2_sem6_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem3_1 : DmaSem sig := 33
abbrev cc5_sem0_0 : DmaSem sig := 34
abbrev cc5_sem0_1 : DmaSem sig := 35
abbrev cc5_sem1_0 : DmaSem sig := 36
abbrev cc5_sem1_1 : DmaSem sig := 37
abbrev cc5_sem2_0 : DmaSem sig := 38
abbrev cc5_sem3_0 : DmaSem sig := 39
abbrev cc5_sem4_0 : DmaSem sig := 40
abbrev cc5_sem4_1 : DmaSem sig := 41
abbrev cc5_sem5_0 : DmaSem sig := 42
abbrev cc5_sem5_1 : DmaSem sig := 43

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4608x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x4608x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![4], ![false]⟩

def cc1_transform_0 (i : grid1.Coords) : Fin 6 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![arg0.toNat, c0_i32.toNat, c0_i32_0.toNat, c0_i32_1.toNat, c0_i32_2.toNat, c0_i32_3.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S1x2x2x97x104x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2x2x64x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x96x96x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![4], ![false]⟩

def cc2_transform_0 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_6 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x98x104x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S3x128x384 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S512x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1x9216x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x8x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![4], ![false]⟩

def cc3_transform_0 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage3_0 : Fin 2 → Memref sig .tc .vmem S1x98x104x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S3x128x384 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1x96x96x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![4], ![false]⟩

def cc4_transform_0 (i : grid4.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc4_transform_1 (i : grid4.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 6 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![arg0.toNat, c0_i32.toNat, c0_i32_0.toNat, c0_i32_1.toNat, c0_i32_2.toNat, c0_i32_3.toNat]

abbrev stage4_0 : Fin 2 → Memref sig .tc .vmem S1x98x104x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S2x2x128x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S1x2x2x96x96x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![4], ![false]⟩

def cc5_transform_0 (i : grid5.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc5_transform_1 (i : grid5.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc5_transform_2 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc5_transform_5 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage5_0 : Fin 2 → Memref sig .tc .vmem S1x194x194x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1x2x2x192x192 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S4x4x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x1 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S1x2x2x192x192 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 2 → Memref sig .tc .vmem S1x8x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]
-- ==== ReferenceIdeal.lean ====
abbrev S4x1x384x384 : Shape := ⟨4, ![4, 1, 384, 384]⟩
abbrev S64x1x4x4 : Shape := ⟨4, ![64, 1, 4, 4]⟩
abbrev S64 : Shape := ⟨1, ![64]⟩
abbrev S128x64x4x4 : Shape := ⟨4, ![128, 64, 4, 4]⟩
abbrev S128 : Shape := ⟨1, ![128]⟩
abbrev S128x128x3x3 : Shape := ⟨4, ![128, 128, 3, 3]⟩
abbrev S512x128 : Shape := ⟨2, ![512, 128]⟩
abbrev S1 : Shape := ⟨1, ![1]⟩
abbrev S_ : Shape := ⟨0, ![]⟩
abbrev S4x1x386x386 : Shape := ⟨4, ![4, 1, 386, 386]⟩
abbrev S4x1x192x386 : Shape := ⟨4, ![4, 1, 192, 386]⟩
abbrev S4x1x1x192x386 : Shape := ⟨5, ![4, 1, 1, 192, 386]⟩
abbrev S4x1x4x192x386 : Shape := ⟨5, ![4, 1, 4, 192, 386]⟩
abbrev S4x1x4x192x192 : Shape := ⟨5, ![4, 1, 4, 192, 192]⟩
abbrev S4x1x4x1x192x192 : Shape := ⟨6, ![4, 1, 4, 1, 192, 192]⟩
abbrev S4x1x4x4x192x192 : Shape := ⟨6, ![4, 1, 4, 4, 192, 192]⟩
abbrev S64x4x192x192 : Shape := ⟨4, ![64, 4, 192, 192]⟩
abbrev S4x64x192x192 : Shape := ⟨4, ![4, 64, 192, 192]⟩
abbrev S1x64x1x1 : Shape := ⟨4, ![1, 64, 1, 1]⟩
abbrev S4x64x194x194 : Shape := ⟨4, ![4, 64, 194, 194]⟩
abbrev S4x64x96x194 : Shape := ⟨4, ![4, 64, 96, 194]⟩
abbrev S4x64x1x96x194 : Shape := ⟨5, ![4, 64, 1, 96, 194]⟩
abbrev S4x64x4x96x194 : Shape := ⟨5, ![4, 64, 4, 96, 194]⟩
abbrev S4x64x4x96x96 : Shape := ⟨5, ![4, 64, 4, 96, 96]⟩
abbrev S4x64x4x1x96x96 : Shape := ⟨6, ![4, 64, 4, 1, 96, 96]⟩
abbrev S4x64x4x4x96x96 : Shape := ⟨6, ![4, 64, 4, 4, 96, 96]⟩
abbrev S128x4x96x96 : Shape := ⟨4, ![128, 4, 96, 96]⟩
abbrev S4x128x96x96 : Shape := ⟨4, ![4, 128, 96, 96]⟩
abbrev S1x128x1x1 : Shape := ⟨4, ![1, 128, 1, 1]⟩
abbrev S4x128x98x98 : Shape := ⟨4, ![4, 128, 98, 98]⟩
abbrev S4x128x96x98 : Shape := ⟨4, ![4, 128, 96, 98]⟩
abbrev S4x128x1x96x98 : Shape := ⟨5, ![4, 128, 1, 96, 98]⟩
abbrev S4x128x3x96x98 : Shape := ⟨5, ![4, 128, 3, 96, 98]⟩
abbrev S4x128x3x96x96 : Shape := ⟨5, ![4, 128, 3, 96, 96]⟩
abbrev S4x128x3x1x96x96 : Shape := ⟨6, ![4, 128, 3, 1, 96, 96]⟩
abbrev S4x128x3x3x96x96 : Shape := ⟨6, ![4, 128, 3, 3, 96, 96]⟩
abbrev S4x96x96x128 : Shape := ⟨4, ![4, 96, 96, 128]⟩
abbrev S36864x128 : Shape := ⟨2, ![36864, 128]⟩
abbrev S36864 : Shape := ⟨1, ![36864]⟩
abbrev S36864x1 : Shape := ⟨2, ![36864, 1]⟩
abbrev S512 : Shape := ⟨1, ![512]⟩
abbrev S1x512 : Shape := ⟨2, ![1, 512]⟩
abbrev S36864x512 : Shape := ⟨2, ![36864, 512]⟩
abbrev S64x128x4x4 : Shape := ⟨4, ![64, 128, 4, 4]⟩
abbrev S4x128x191x191 : Shape := ⟨4, ![4, 128, 191, 191]⟩
abbrev S4x128x195x195 : Shape := ⟨4, ![4, 128, 195, 195]⟩
abbrev S4x128x192x195 : Shape := ⟨4, ![4, 128, 192, 195]⟩
abbrev S4x128x1x192x195 : Shape := ⟨5, ![4, 128, 1, 192, 195]⟩
abbrev S4x128x4x192x195 : Shape := ⟨5, ![4, 128, 4, 192, 195]⟩
abbrev S4x128x4x192x192 : Shape := ⟨5, ![4, 128, 4, 192, 192]⟩
abbrev S4x128x4x1x192x192 : Shape := ⟨6, ![4, 128, 4, 1, 192, 192]⟩
abbrev S4x128x4x4x192x192 : Shape := ⟨6, ![4, 128, 4, 4, 192, 192]⟩
abbrev S1x64x4x4 : Shape := ⟨4, ![1, 64, 4, 4]⟩
abbrev S4x64x383x383 : Shape := ⟨4, ![4, 64, 383, 383]⟩
abbrev S4x64x387x387 : Shape := ⟨4, ![4, 64, 387, 387]⟩
abbrev S4x64x384x387 : Shape := ⟨4, ![4, 64, 384, 387]⟩
abbrev S4x64x1x384x387 : Shape := ⟨5, ![4, 64, 1, 384, 387]⟩
abbrev S4x64x4x384x387 : Shape := ⟨5, ![4, 64, 4, 384, 387]⟩
abbrev S4x64x4x384x384 : Shape := ⟨5, ![4, 64, 4, 384, 384]⟩
abbrev S4x64x4x1x384x384 : Shape := ⟨6, ![4, 64, 4, 1, 384, 384]⟩
abbrev S4x64x4x4x384x384 : Shape := ⟨6, ![4, 64, 4, 4, 384, 384]⟩
abbrev S1x4x384x384 : Shape := ⟨4, ![1, 4, 384, 384]⟩
abbrev S1x1x1x1 : Shape := ⟨4, ![1, 1, 1, 1]⟩

abbrev nBuf : Space → Nat
  | .hbm => 220
  | .vmem => 0
  | .smem => 0
  | _ => 0

abbrev hbmTy0_0 (i : Nat) : BufTy := match i % 128 with
  | 0 => ⟨S4x1x384x384, .f32⟩
  | 1 => ⟨S64x1x4x4, .f32⟩
  | 2 => ⟨S64, .f32⟩
  | 3 => ⟨S128x64x4x4, .f32⟩
  | 4 => ⟨S128, .f32⟩
  | 5 => ⟨S128x128x3x3, .f32⟩
  | 6 => ⟨S128, .f32⟩
  | 7 => ⟨S512x128, .f32⟩
  | 8 => ⟨S128x128x3x3, .f32⟩
  | 9 => ⟨S128, .f32⟩
  | 10 => ⟨S128x64x4x4, .f32⟩
  | 11 => ⟨S64, .f32⟩
  | 12 => ⟨S64x1x4x4, .f32⟩
  | 13 => ⟨S1, .f32⟩
  | 14 => ⟨S_, .i32⟩
  | 15 => ⟨S_, .f32⟩
  | 16 => ⟨S4x1x386x386, .f32⟩
  | 17 => ⟨S4x1x192x386, .f32⟩
  | 18 => ⟨S4x1x192x386, .f32⟩
  | 19 => ⟨S4x1x192x386, .f32⟩
  | 20 => ⟨S4x1x192x386, .f32⟩
  | 21 => ⟨S4x1x1x192x386, .f32⟩
  | 22 => ⟨S4x1x1x192x386, .f32⟩
  | 23 => ⟨S4x1x1x192x386, .f32⟩
  | 24 => ⟨S4x1x1x192x386, .f32⟩
  | 25 => ⟨S4x1x4x192x386, .f32⟩
  | 26 => ⟨S4x1x4x192x192, .f32⟩
  | 27 => ⟨S4x1x4x192x192, .f32⟩
  | 28 => ⟨S4x1x4x192x192, .f32⟩
  | 29 => ⟨S4x1x4x192x192, .f32⟩
  | 30 => ⟨S4x1x4x1x192x192, .f32⟩
  | 31 => ⟨S4x1x4x1x192x192, .f32⟩
  | 32 => ⟨S4x1x4x1x192x192, .f32⟩
  | 33 => ⟨S4x1x4x1x192x192, .f32⟩
  | 34 => ⟨S4x1x4x4x192x192, .f32⟩
  | 35 => ⟨S64x4x192x192, .f32⟩
  | 36 => ⟨S4x64x192x192, .f32⟩
  | 37 => ⟨S1x64x1x1, .f32⟩
  | 38 => ⟨S4x64x192x192, .f32⟩
  | 39 => ⟨S4x64x192x192, .f32⟩
  | 40 => ⟨S_, .f32⟩
  | 41 => ⟨S4x64x192x192, .f32⟩
  | 42 => ⟨S4x64x192x192, .f32⟩
  | 43 => ⟨S_, .i32⟩
  | 44 => ⟨S_, .f32⟩
  | 45 => ⟨S4x64x194x194, .f32⟩
  | 46 => ⟨S4x64x96x194, .f32⟩
  | 47 => ⟨S4x64x96x194, .f32⟩
  | 48 => ⟨S4x64x96x194, .f32⟩
  | 49 => ⟨S4x64x96x194, .f32⟩
  | 50 => ⟨S4x64x1x96x194, .f32⟩
  | 51 => ⟨S4x64x1x96x194, .f32⟩
  | 52 => ⟨S4x64x1x96x194, .f32⟩
  | 53 => ⟨S4x64x1x96x194, .f32⟩
  | 54 => ⟨S4x64x4x96x194, .f32⟩
  | 55 => ⟨S4x64x4x96x96, .f32⟩
  | 56 => ⟨S4x64x4x96x96, .f32⟩
  | 57 => ⟨S4x64x4x96x96, .f32⟩
  | 58 => ⟨S4x64x4x96x96, .f32⟩
  | 59 => ⟨S4x64x4x1x96x96, .f32⟩
  | 60 => ⟨S4x64x4x1x96x96, .f32⟩
  | 61 => ⟨S4x64x4x1x96x96, .f32⟩
  | 62 => ⟨S4x64x4x1x96x96, .f32⟩
  | 63 => ⟨S4x64x4x4x96x96, .f32⟩
  | 64 => ⟨S128x4x96x96, .f32⟩
  | 65 => ⟨S4x128x96x96, .f32⟩
  | 66 => ⟨S1x128x1x1, .f32⟩
  | 67 => ⟨S4x128x96x96, .f32⟩
  | 68 => ⟨S4x128x96x96, .f32⟩
  | 69 => ⟨S_, .f32⟩
  | 70 => ⟨S4x128x96x96, .f32⟩
  | 71 => ⟨S4x128x96x96, .f32⟩
  | 72 => ⟨S_, .i32⟩
  | 73 => ⟨S_, .f32⟩
  | 74 => ⟨S4x128x98x98, .f32⟩
  | 75 => ⟨S4x128x96x98, .f32⟩
  | 76 => ⟨S4x128x96x98, .f32⟩
  | 77 => ⟨S4x128x96x98, .f32⟩
  | 78 => ⟨S4x128x1x96x98, .f32⟩
  | 79 => ⟨S4x128x1x96x98, .f32⟩
  | 80 => ⟨S4x128x1x96x98, .f32⟩
  | 81 => ⟨S4x128x3x96x98, .f32⟩
  | 82 => ⟨S4x128x3x96x96, .f32⟩
  | 83 => ⟨S4x128x3x96x96, .f32⟩
  | 84 => ⟨S4x128x3x96x96, .f32⟩
  | 85 => ⟨S4x128x3x1x96x96, .f32⟩
  | 86 => ⟨S4x128x3x1x96x96, .f32⟩
  | 87 => ⟨S4x128x3x1x96x96, .f32⟩
  | 88 => ⟨S4x128x3x3x96x96, .f32⟩
  | 89 => ⟨S128x4x96x96, .f32⟩
  | 90 => ⟨S4x128x96x96, .f32⟩
  | 91 => ⟨S1x128x1x1, .f32⟩
  | 92 => ⟨S4x128x96x96, .f32⟩
  | 93 => ⟨S4x128x96x96, .f32⟩
  | 94 => ⟨S4x96x96x128, .f32⟩
  | 95 => ⟨S36864x128, .f32⟩
  | 96 => ⟨S36864x128, .f32⟩
  | 97 => ⟨S_, .f32⟩
  | 98 => ⟨S36864, .f32⟩
  | 99 => ⟨S36864x1, .f32⟩
  | 100 => ⟨S512x128, .f32⟩
  | 101 => ⟨S_, .f32⟩
  | 102 => ⟨S512, .f32⟩
  | 103 => ⟨S1x512, .f32⟩
  | 104 => ⟨S36864x512, .f32⟩
  | 105 => ⟨S36864x512, .f32⟩
  | 106 => ⟨S36864x512, .f32⟩
  | 107 => ⟨S36864x512, .f32⟩
  | 108 => ⟨S36864x1, .f32⟩
  | 109 => ⟨S36864x1, .i32⟩
  | 110 => ⟨S36864, .i32⟩
  | 111 => ⟨S36864x1, .i32⟩
  | 112 => ⟨S36864x128, .f32⟩
  | 113 => ⟨S4x96x96x128, .f32⟩
  | 114 => ⟨S4x128x96x96, .f32⟩
  | 115 => ⟨S4x128x96x96, .f32⟩
  | 116 => ⟨S4x128x96x96, .f32⟩
  | 117 => ⟨S_, .f32⟩
  | 118 => ⟨S_, .f32⟩
  | 119 => ⟨S_, .f32⟩
  | 120 => ⟨S_, .f32⟩
  | 121 => ⟨S4x128x96x96, .f32⟩
  | 122 => ⟨S4x128x96x96, .f32⟩
  | 123 => ⟨S_, .f32⟩
  | 124 => ⟨S_, .f32⟩
  | 125 => ⟨S_, .f32⟩
  | 126 => ⟨S_, .f32⟩
  | 127 => ⟨S_, .f32⟩
  | _ => ⟨S4x1x384x384, .f32⟩

abbrev hbmTy0_1 (i : Nat) : BufTy := match i % 128 with
  | 0 => ⟨S_, .i32⟩
  | 1 => ⟨S_, .f32⟩
  | 2 => ⟨S4x128x98x98, .f32⟩
  | 3 => ⟨S4x128x96x98, .f32⟩
  | 4 => ⟨S4x128x96x98, .f32⟩
  | 5 => ⟨S4x128x96x98, .f32⟩
  | 6 => ⟨S4x128x1x96x98, .f32⟩
  | 7 => ⟨S4x128x1x96x98, .f32⟩
  | 8 => ⟨S4x128x1x96x98, .f32⟩
  | 9 => ⟨S4x128x3x96x98, .f32⟩
  | 10 => ⟨S4x128x3x96x96, .f32⟩
  | 11 => ⟨S4x128x3x96x96, .f32⟩
  | 12 => ⟨S4x128x3x96x96, .f32⟩
  | 13 => ⟨S4x128x3x1x96x96, .f32⟩
  | 14 => ⟨S4x128x3x1x96x96, .f32⟩
  | 15 => ⟨S4x128x3x1x96x96, .f32⟩
  | 16 => ⟨S4x128x3x3x96x96, .f32⟩
  | 17 => ⟨S128x4x96x96, .f32⟩
  | 18 => ⟨S4x128x96x96, .f32⟩
  | 19 => ⟨S1x128x1x1, .f32⟩
  | 20 => ⟨S4x128x96x96, .f32⟩
  | 21 => ⟨S4x128x96x96, .f32⟩
  | 22 => ⟨S128x64x4x4, .f32⟩
  | 23 => ⟨S64x128x4x4, .f32⟩
  | 24 => ⟨S_, .f32⟩
  | 25 => ⟨S4x128x191x191, .f32⟩
  | 26 => ⟨S_, .i32⟩
  | 27 => ⟨S_, .f32⟩
  | 28 => ⟨S4x128x195x195, .f32⟩
  | 29 => ⟨S4x128x192x195, .f32⟩
  | 30 => ⟨S4x128x192x195, .f32⟩
  | 31 => ⟨S4x128x192x195, .f32⟩
  | 32 => ⟨S4x128x192x195, .f32⟩
  | 33 => ⟨S4x128x1x192x195, .f32⟩
  | 34 => ⟨S4x128x1x192x195, .f32⟩
  | 35 => ⟨S4x128x1x192x195, .f32⟩
  | 36 => ⟨S4x128x1x192x195, .f32⟩
  | 37 => ⟨S4x128x4x192x195, .f32⟩
  | 38 => ⟨S4x128x4x192x192, .f32⟩
  | 39 => ⟨S4x128x4x192x192, .f32⟩
  | 40 => ⟨S4x128x4x192x192, .f32⟩
  | 41 => ⟨S4x128x4x192x192, .f32⟩
  | 42 => ⟨S4x128x4x1x192x192, .f32⟩
  | 43 => ⟨S4x128x4x1x192x192, .f32⟩
  | 44 => ⟨S4x128x4x1x192x192, .f32⟩
  | 45 => ⟨S4x128x4x1x192x192, .f32⟩
  | 46 => ⟨S4x128x4x4x192x192, .f32⟩
  | 47 => ⟨S64x4x192x192, .f32⟩
  | 48 => ⟨S4x64x192x192, .f32⟩
  | 49 => ⟨S1x64x1x1, .f32⟩
  | 50 => ⟨S4x64x192x192, .f32⟩
  | 51 => ⟨S4x64x192x192, .f32⟩
  | 52 => ⟨S_, .f32⟩
  | 53 => ⟨S4x64x192x192, .f32⟩
  | 54 => ⟨S4x64x192x192, .f32⟩
  | 55 => ⟨S64x1x4x4, .f32⟩
  | 56 => ⟨S1x64x4x4, .f32⟩
  | 57 => ⟨S_, .f32⟩
  | 58 => ⟨S4x64x383x383, .f32⟩
  | 59 => ⟨S_, .i32⟩
  | 60 => ⟨S_, .f32⟩
  | 61 => ⟨S4x64x387x387, .f32⟩
  | 62 => ⟨S4x64x384x387, .f32⟩
  | 63 => ⟨S4x64x384x387, .f32⟩
  | 64 => ⟨S4x64x384x387, .f32⟩
  | 65 => ⟨S4x64x384x387, .f32⟩
  | 66 => ⟨S4x64x1x384x387, .f32⟩
  | 67 => ⟨S4x64x1x384x387, .f32⟩
  | 68 => ⟨S4x64x1x384x387, .f32⟩
  | 69 => ⟨S4x64x1x384x387, .f32⟩
  | 70 => ⟨S4x64x4x384x387, .f32⟩
  | 71 => ⟨S4x64x4x384x384, .f32⟩
  | 72 => ⟨S4x64x4x384x384, .f32⟩
  | 73 => ⟨S4x64x4x384x384, .f32⟩
  | 74 => ⟨S4x64x4x384x384, .f32⟩
  | 75 => ⟨S4x64x4x1x384x384, .f32⟩
  | 76 => ⟨S4x64x4x1x384x384, .f32⟩
  | 77 => ⟨S4x64x4x1x384x384, .f32⟩
  | 78 => ⟨S4x64x4x1x384x384, .f32⟩
  | 79 => ⟨S4x64x4x4x384x384, .f32⟩
  | 80 => ⟨S1x4x384x384, .f32⟩
  | 81 => ⟨S4x1x384x384, .f32⟩
  | 82 => ⟨S1x1x1x1, .f32⟩
  | 83 => ⟨S4x1x384x384, .f32⟩
  | 84 => ⟨S4x1x384x384, .f32⟩
  | 85 => ⟨S4x1x384x384, .f32⟩
  | 86 => ⟨S4x1x384x384, .f32⟩
  | 87 => ⟨S_, .f32⟩
  | 88 => ⟨S_, .f32⟩
  | 89 => ⟨S_, .f32⟩
  | 90 => ⟨S_, .f32⟩
  | 91 => ⟨S_, .f32⟩
  | _ => ⟨S4x1x384x384, .f32⟩

abbrev hbmTy (i : Nat) : BufTy := match i / 128 with
  | 0 => hbmTy0_0 i
  | 1 => hbmTy0_1 i
  | _ => ⟨S4x1x384x384, .f32⟩

abbrev bufTy : (tb : Table) → Fin (tcTables nBuf tb) → BufTy
  | .hbm, ⟨i, _⟩ => hbmTy i
  | _, _ => ⟨S4x1x384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_call0_v0 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_call1_cst : Ref sig .tc := ⟨.hbm, 40, rfl⟩
abbrev main_call1_v0 : Ref sig .tc := ⟨.hbm, 41, rfl⟩
abbrev main_v24 : Ref sig .tc := ⟨.hbm, 42, rfl⟩
abbrev main_c_0 : Ref sig .tc := ⟨.hbm, 43, rfl⟩
abbrev main_call2_v0 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call3_cst : Ref sig .tc := ⟨.hbm, 69, rfl⟩
abbrev main_call3_v0 : Ref sig .tc := ⟨.hbm, 70, rfl⟩
abbrev main_v49 : Ref sig .tc := ⟨.hbm, 71, rfl⟩
abbrev main_c_1 : Ref sig .tc := ⟨.hbm, 72, rfl⟩
abbrev main_call4_v0 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_cst : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_2 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_values : Ref sig .tc := ⟨.hbm, 108, rfl⟩
abbrev main_indices : Ref sig .tc := ⟨.hbm, 109, rfl⟩
abbrev main_v82 : Ref sig .tc := ⟨.hbm, 110, rfl⟩
abbrev main_call5_v0 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_cst_3 : Ref sig .tc := ⟨.hbm, 117, rfl⟩
abbrev main_v88 : Ref sig .tc := ⟨.hbm, 118, rfl⟩
abbrev main_cst_4 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_cst_5 : Ref sig .tc := ⟨.hbm, 123, rfl⟩
abbrev main_v92 : Ref sig .tc := ⟨.hbm, 124, rfl⟩
abbrev main_cst_6 : Ref sig .tc := ⟨.hbm, 125, rfl⟩
abbrev main_v93 : Ref sig .tc := ⟨.hbm, 126, rfl⟩
abbrev main_v94 : Ref sig .tc := ⟨.hbm, 127, rfl⟩
abbrev main_c_7 : Ref sig .tc := ⟨.hbm, 128, rfl⟩
abbrev main_call6_v0 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_cst_8 : Ref sig .tc := ⟨.hbm, 152, rfl⟩
abbrev main_v117 : Ref sig .tc := ⟨.hbm, 153, rfl⟩
abbrev main_c_9 : Ref sig .tc := ⟨.hbm, 154, rfl⟩
abbrev main_call8_v0 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_call9_cst : Ref sig .tc := ⟨.hbm, 180, rfl⟩
abbrev main_call9_v0 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_cst_10 : Ref sig .tc := ⟨.hbm, 185, rfl⟩
abbrev main_v145 : Ref sig .tc := ⟨.hbm, 186, rfl⟩
abbrev main_c_11 : Ref sig .tc := ⟨.hbm, 187, rfl⟩
abbrev main_call11_v0 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_v170 : Ref sig .tc := ⟨.hbm, 213, rfl⟩
abbrev main_v171 : Ref sig .tc := ⟨.hbm, 214, rfl⟩
abbrev main_cst_12 : Ref sig .tc := ⟨.hbm, 215, rfl⟩
abbrev main_v172 : Ref sig .tc := ⟨.hbm, 216, rfl⟩
abbrev main_cst_13 : Ref sig .tc := ⟨.hbm, 217, rfl⟩
abbrev main_v173 : Ref sig .tc := ⟨.hbm, 218, rfl⟩
abbrev main_v174 : Ref sig .tc := ⟨.hbm, 219, rfl⟩

abbrev nD : Nat := 1
abbrev τ : Topo := Topo.v7x

variable {F : FTy → Type} [FloatOps F]
-- ==== Proof.Spec.lean ====
/-
  What the network computes, stated on natural-number coordinates over the extended reals.
  An array is a function of its coordinates; a padded image is zero outside the frame it is placed in.
-/
module

public import Idealize.ShloMosaic.Lib.Pointwise

@[expose] public section

noncomputable section

namespace Cert.Vq

open Idealize.ShloMosaic

/-- An `n` by `n` image placed `p` rows and columns into a frame of zeros. -/
def placed (p n : ℕ) (f : ℕ → ℕ → EReal) (y x : ℕ) : EReal :=
  if (p ≤ y ∧ y - p < n) ∧ (p ≤ x ∧ x - p < n) then f (y - p) (x - p) else 0

/-- An `n` by `n` image spread to every second row and column, placed `p` into a frame of zeros. -/
def spread (p n : ℕ) (f : ℕ → ℕ → EReal) (y x : ℕ) : EReal :=
  if (p ≤ y ∧ (y - p) % 2 = 0 ∧ (y - p) / 2 < n) ∧ (p ≤ x ∧ (x - p) % 2 = 0 ∧ (x - p) / 2 < n) then
    f ((y - p) / 2) ((x - p) / 2) else 0

/-- One output of a `K` by `K` convolution of stride `s` over `C` channels, from the framed image `f` (channel, row,
    column), the filter `w` (output channel, input channel, row, column) and the bias `b`. -/
def conv (s K C : ℕ) (f : ℕ → ℕ → ℕ → EReal) (w : ℕ → ℕ → ℕ → ℕ → EReal) (b : ℕ → EReal) (o y x : ℕ) : EReal :=
  (∑ i : Fin K, ∑ j : Fin K, ∑ c : Fin C, f c (s * y + i) (s * x + j) * w o c i j) + b o

/-- The 3 by 3 convolution of a framed image by rows, columns, channels with the filter rows laid side by side. -/
def C3 (f : ℕ → ℕ → ℕ → EReal) (g : ℕ → ℕ → ℕ → EReal) (b : ℕ → EReal) (y x o : ℕ) : EReal :=
  (∑ i : Fin 3, ∑ j : Fin 3, ∑ c : Fin 128, f (y + i) (x + j) c * g i c (128 * j + o)) + b o

/-- A tile that holds a number at its corner and zeros elsewhere. -/
def corner (T : EReal) (a b : ℕ) : EReal := if a = 0 ∧ b = 0 then T else 0

end Cert.Vq
-- ==== Proof.Common.lean ====
/-
  Where an element of a rectangle of unit stride sits in its array.
-/
module

public import Idealize.ShloMosaic.Lib.Pipeline.ValueKit

@[expose] public section

namespace Cert.Vq

open Idealize.ShloMosaic

/-- The element at `x` of a unit-stride rectangle sits at its offset plus `x`, axis by axis. -/
theorem emb_unit_val {s : Shape} {off size : Fin s.rank → ℕ} (inb) (x) (a : Fin s.rank) :
    ((Rect.unit (s := s) off size inb).emb x a : ℕ) = off a + x a := by
  rw [Rect.emb_apply]; show off a + 1 * (x a : ℕ) = _; omega

/-- Two small words are equal exactly when their numbers are. -/
theorem cmpi_eq_ofNat (a b : ℕ) (ha : a < 2 ^ 32) (hb : b < 2 ^ 32) :
    IntOp.cmpi CmpIPredicate.eq (BitVec.ofNat 32 a) (BitVec.ofNat 32 b) = BitVec.ofBool (decide (a = b)) := by
  have h : (BitVec.ofNat 32 a == BitVec.ofNat 32 b) = decide (a = b) := by
    rw [Bool.eq_iff_iff, beq_iff_eq, decide_eq_true_iff]
    constructor
    · intro h
      have h' := congrArg BitVec.toNat h
      rwa [BitVec.toNat_ofNat, BitVec.toNat_ofNat, Nat.mod_eq_of_lt ha, Nat.mod_eq_of_lt hb] at h'
    · rintro rfl; rfl
  simp only [IntOp.cmpi, h]

/-- A choice by two comparisons with zero is the choice by both coordinates being zero. -/
theorem select_corner {α : Type} (a b : ℕ) (ha : a < 2 ^ 32) (hb : b < 2 ^ 32) (T Z : α) :
    Scalar.select (IntOp.andi (IntOp.cmpi CmpIPredicate.eq (BitVec.ofNat 32 a) 0#32)
      (IntOp.cmpi CmpIPredicate.eq (BitVec.ofNat 32 b) 0#32)) T Z = if a = 0 ∧ b = 0 then T else Z := by
  have e : 0#32 = BitVec.ofNat 32 0 := rfl
  rw [e, cmpi_eq_ofNat a 0 ha (by norm_num), cmpi_eq_ofNat b 0 hb (by norm_num)]
  by_cases h1 : a = 0 <;> by_cases h2 : b = 0 <;> simp [h1, h2, Scalar.select, IntOp.andi]

/-- The bits of the constant zero are zero. -/
theorem zero_bits : (Scalar.ofBits .f32 0x00000000#32 : Ideal .f32) = (0 : EReal) := Ideal.ofBits_zero_f32

/-- The integer zero, converted, is zero. -/
theorem zero_word : (FloatOps.sitofp (F := Ideal) .f32 0#32 : EReal) = 0 := by
  show ((((0#32 : BitVec 32).toInt : ℤ) : ℝ) : EReal) = 0
  simp

theorem congr2 {f : ℕ → ℕ → EReal} {a b a' b' : ℕ} (ha : a = a') (hb : b = b') : f a b = f a' b' := by
  subst ha hb; rfl

theorem congr3 {f : ℕ → ℕ → ℕ → EReal} {a b c a' b' c' : ℕ} (ha : a = a') (hb : b = b') (hc : c = c') :
    f a b c = f a' b' c' := by
  subst ha hb hc; rfl

theorem congr4 {f : ℕ → ℕ → ℕ → ℕ → EReal} {a b c d a' b' c' d' : ℕ} (ha : a = a') (hb : b = b') (hc : c = c') (hd : d = d') :
    f a b c d = f a' b' c' d' := by
  subst ha hb hc hd; rfl

end Cert.Vq
-- ==== Proof.Region0.lean ====
/-
  The first convolution's launch: what its output array holds, entry by entry, from the arrays it is entered with.
-/
module

public import proofs.«01_k».proof.Proof.Gen.KernelIdeal.Frame.Region0
public import proofs.«01_k».proof.Proof.Spec
public import proofs.«01_k».proof.Proof.Common

@[expose] public section
set_option maxRecDepth 16384
noncomputable section
namespace Cert.KernelIdeal.Gen
open Idealize.ShloMosaic Idealize.ShloMosaic.TcCoe
open Idealize.ShloMosaic.Pipeline (Dat Cfg Window)
open Cert.Vq

/-- One entry of a patch matrix times the filter matrix, plus the bias, cut off at zero. -/
def C1 (f : ℕ → ℕ → EReal) (g : ℕ → ℕ → EReal) (b : ℕ → EReal) (p q : ℕ) : EReal :=
  max ((∑ k : Fin 128, f p k * g k q) + b q) 0

theorem out0_read (x0 : Vec Ideal S1x4608x128 .f32) (x1 : Vec Ideal S128x512 .f32) (x2 : Vec Ideal S1x512 .f32)
    (f g b) (hx : ∀ i, x0 i = f (i 1) (i 2)) (hw : ∀ i, x1 i = g (i 0) (i 1)) (hb : ∀ i, x2 i = b (i 1))
    (i : S1x4608x512.Idx) : out0_3 x0 x1 x2 i = C1 f g b (i 1) (i 2) := by
  frame_out
  idx_vars i
  pointwise [k0_pay1, hx, hw, hb, C1]

variable (V : (c : Dev nD) → (b : Ref sig .tc) → Buf (Elt Ideal) ((c : Thread nD τ).loc b))

theorem index0_0 : ∀ t : Fin cfg0.N, win0_0.index t = ![t.val, 0, 0] := by decide +kernel
theorem index0_1 : ∀ t : Fin cfg0.N, win0_1.index t = ![0, 0] := by decide +kernel
theorem index0_2 : ∀ t : Fin cfg0.N, win0_2.index t = ![0, 0] := by decide +kernel
theorem index0_3 : ∀ t : Fin cfg0.N, win0_3.index t = ![t.val, 0, 0] := by decide +kernel

theorem arr0_read (c : Dev nD) (f : ℕ → ℕ → ℕ → EReal) (g b)
    (hx : ∀ i : S4x4608x128.Idx, V c main_v248 i = f (i 0) (i 1) (i 2))
    (hw : ∀ i : S128x512.Idx, V c main_v9 i = g (i 0) (i 1))
    (hb : ∀ i : S1x512.Idx, V c main_v13 i = b (i 1)) (i : S4x4608x512.Idx) :
    (dat0 V c).arrAt 3 cfg0.N i = C1 (f (i 0)) g b (i 1) (i 2) := by
  refine congrFun ((dat0 V c).arrAt_eq_of_covers 3 (fun i : S4x4608x512.Idx => C1 (f (i 0)) g b (i 1) (i 2))
    (by decide +kernel) fun t hf y => ?_) i
  blk_simp
  rw [after0_3]
  refine (out0_read _ _ _ (f t.val) g b ?_ ?_ ?_ _).trans ?_
  · intro j
    refine (hx _).trans ?_
    blk_simp [index0_0]
  · intro j
    refine (hw _).trans ?_
    blk_simp [index0_1]
  · intro j
    refine (hb _).trans ?_
    blk_simp [index0_2]
  blk_simp [index0_3]

end Cert.KernelIdeal.Gen
-- ==== Proof.Region1.lean ====
/-
  The second convolution's launch: what its output array holds, entry by entry, from the arrays it is entered with.
-/
module

public import proofs.«01_k».proof.Proof.Gen.KernelIdeal.Frame.Region1
public import proofs.«01_k».proof.Proof.Spec
public import proofs.«01_k».proof.Proof.Common

@[expose] public section
set_option maxRecDepth 16384
noncomputable section
namespace Cert.KernelIdeal.Gen
open Idealize.ShloMosaic Idealize.ShloMosaic.TcCoe
open Idealize.ShloMosaic.Pipeline (Dat Cfg Window)
open Cert.Vq

/-- A stride-two 4 by 4 convolution from the image's four row and column parities, with the filter taps of each parity
    laid side by side, plus the bias, cut off at zero. -/
def C2 (f : ℕ → ℕ → ℕ → ℕ → ℕ → EReal) (g : ℕ → ℕ → ℕ → ℕ → EReal) (b : ℕ → EReal) (y x o : ℕ) : EReal :=
  max ((∑ p : Fin 2, ∑ q : Fin 2, ∑ i : Fin 2, ∑ j : Fin 2, ∑ c : Fin 64,
    f p q (y + i) (x + j) c * g p q c ((i * 2 + j) * 128 + o)) + b o) 0

/-- One band of 24 rows, as the last band's payload spells it. -/
def band1 (z0 : Vec Ideal S1x1x1x25x104x64 .f32) (w0 : Vec Ideal S1x1x64x512 .f32) (z1 w1 z2 w2 z3 w3)
    (b : Vec Ideal S1x128 .f32) := k1_pay4 (k1_pay3 (k1_pay2 z0 w0 z1 w1) z2 w2 z3 w3 b)

theorem band1_a (z0 w0 z1 w1 z2 w2 z3 w3 b) :
    k1_pay1 (k1_pay18 (k1_pay15 z0 w0) (k1_pay16 z1 w1) (k1_pay17 z1 w1) z2 w2 z3 w3) b = band1 z0 w0 z1 w1 z2 w2 z3 w3 b := rfl
theorem band1_b (z0 w0 z1 w1 z2 w2 z3 w3 b) :
    k1_pay14 (k1_pay12 (k1_pay9 z1 w1) (k1_pay10 z0 w0 z1 w1) (k1_pay11 z1 w1) z2 w2 z3 w3) (k1_pay13 b)
      = band1 z0 w0 z1 w1 z2 w2 z3 w3 b := rfl
theorem band1_c (z0 w0 z1 w1 z2 w2 z3 w3 b) :
    k1_pay8 (k1_pay6 (k1_pay5 z0 w0 z1 w1) z2 w2 z3 w3 b) (k1_pay7 (F := Ideal)) = band1 z0 w0 z1 w1 z2 w2 z3 w3 b := rfl

theorem band1_apply (z0 z1 z2 z3 : Vec Ideal S1x1x1x25x104x64 .f32) (w0 w1 w2 w3 : Vec Ideal S1x1x64x512 .f32)
    (b : Vec Ideal S1x128 .f32) (r : ℕ) (f g b')
    (h0 : ∀ i, z0 i = f 0 0 (r + i 3) (i 4) (i 5)) (h1 : ∀ i, z1 i = f 0 1 (r + i 3) (i 4) (i 5))
    (h2 : ∀ i, z2 i = f 1 0 (r + i 3) (i 4) (i 5)) (h3 : ∀ i, z3 i = f 1 1 (r + i 3) (i 4) (i 5))
    (g0 : ∀ i, w0 i = g 0 0 (i 2) (i 3)) (g1 : ∀ i, w1 i = g 0 1 (i 2) (i 3))
    (g2 : ∀ i, w2 i = g 1 0 (i 2) (i 3)) (g3 : ∀ i, w3 i = g 1 1 (i 2) (i 3))
    (hb : ∀ i, b i = b' (i 1)) (i : S1x24x96x128.Idx) :
    band1 z0 w0 z1 w1 z2 w2 z3 w3 b i = C2 f g b' (r + i 1) (i 2) (i 3) := by
  idx_vars i
  pointwise [band1, k1_pay4, k1_pay3, k1_pay2, h0, h1, h2, h3, g0, g1, g2, g3, hb, C2, Fin.sum_univ_two]
  have d0 : (i1.val * 104 + i2.val) / 104 = i1.val := by omega
  have d1 : (i1.val * 104 + (1 + i2.val)) / 104 = i1.val := by omega
  have d2 : ((1 + i1.val) * 104 + i2.val) / 104 = i1.val + 1 := by omega
  have d3 : ((1 + i1.val) * 104 + (1 + i2.val)) / 104 = i1.val + 1 := by omega
  have m0 : (i1.val * 104 + i2.val) % 104 = i2.val := by omega
  have m1 : (i1.val * 104 + (1 + i2.val)) % 104 = i2.val + 1 := by omega
  have m2 : ((1 + i1.val) * 104 + i2.val) % 104 = i2.val := by omega
  have m3 : ((1 + i1.val) * 104 + (1 + i2.val)) % 104 = i2.val + 1 := by omega
  simp only [d0, d1, d2, d3, m0, m1, m2, m3]
  simp only [← add_assoc]

theorem out1_read (x0 : Vec Ideal S1x2x2x97x104x64 .f32) (x1 : Vec Ideal S2x2x64x512 .f32) (x2 : Vec Ideal S1x128 .f32)
    (f g b) (hx : ∀ i, x0 i = f (i 1) (i 2) (i 3) (i 4) (i 5)) (hw : ∀ i, x1 i = g (i 0) (i 1) (i 2) (i 3))
    (hb : ∀ i, x2 i = b (i 1)) (i : S1x96x96x128.Idx) : out1_3 x0 x1 x2 i = C2 f g b (i 1) (i 2) (i 3) := by
  unfold out1_3
  rw [band1_a, band1_b, band1_c]
  refine View.canon_apply_of_pieces (Val := Elt Ideal) (fun i : S1x96x96x128.Idx => C2 f g b (i 1) (i 2) (i 3)) _ ?_ i
    (cover1_3 _ _ _ _ i)
  intro p hp
  have hb' : ∀ j, View.ld x2 r1_8 j = b (j 1) := by intro j; pointwise [hb]
  have hw0 : ∀ j, View.ld x1 r1_1 j = g 0 0 (j 2) (j 3) := by intro j; pointwise [hw]
  have hw1 : ∀ j, View.ld x1 r1_3 j = g 0 1 (j 2) (j 3) := by intro j; pointwise [hw]
  have hw2 : ∀ j, View.ld x1 r1_5 j = g 1 0 (j 2) (j 3) := by intro j; pointwise [hw]
  have hw3 : ∀ j, View.ld x1 r1_7 j = g 1 1 (j 2) (j 3) := by intro j; pointwise [hw]
  simp only [List.mem_cons, List.not_mem_nil, or_false] at hp
  rcases hp with rfl | rfl | rfl | rfl <;> intro x <;> dsimp only
  · refine (band1_apply _ _ _ _ _ _ _ _ _ 72 f g b ?_ ?_ ?_ ?_ hw0 hw1 hw2 hw3 hb' x).trans (by simp only [emb_unit_val]; simp)
      <;> intro j <;> pointwise [hx]
  · refine (band1_apply _ _ _ _ _ _ _ _ _ 48 f g b ?_ ?_ ?_ ?_ hw0 hw1 hw2 hw3 hb' x).trans (by simp only [emb_unit_val]; simp)
      <;> intro j <;> pointwise [hx]
  · refine (band1_apply _ _ _ _ _ _ _ _ _ 24 f g b ?_ ?_ ?_ ?_ hw0 hw1 hw2 hw3 hb' x).trans (by simp only [emb_unit_val]; simp)
      <;> intro j <;> pointwise [hx]
  · refine (band1_apply _ _ _ _ _ _ _ _ _ 0 f g b ?_ ?_ ?_ ?_ hw0 hw1 hw2 hw3 hb' x).trans (by simp only [emb_unit_val]; simp)
      <;> intro j <;> pointwise [hx]

variable (V : (c : Dev nD) → (b : Ref sig .tc) → Buf (Elt Ideal) ((c : Thread nD τ).loc b))

theorem index1_0 : ∀ t : Fin cfg1.N, win1_0.index t = ![t.val, 0, 0, 0, 0, 0] := by decide +kernel
theorem index1_1 : ∀ t : Fin cfg1.N, win1_1.index t = ![0, 0, 0, 0] := by decide +kernel
theorem index1_2 : ∀ t : Fin cfg1.N, win1_2.index t = ![0, 0] := by decide +kernel
theorem index1_3 : ∀ t : Fin cfg1.N, win1_3.index t = ![t.val, 0, 0, 0] := by decide +kernel

theorem arr1_read (c : Dev nD) (f : ℕ → ℕ → ℕ → ℕ → ℕ → ℕ → EReal) (g b)
    (hx : ∀ i : S4x2x2x97x104x64.Idx, V c main_v254 i = f (i 0) (i 1) (i 2) (i 3) (i 4) (i 5))
    (hw : ∀ i : S2x2x64x512.Idx, V c main_v74 i = g (i 0) (i 1) (i 2) (i 3))
    (hb : ∀ i : S1x128.Idx, V c main_v255 i = b (i 1)) (i : S4x96x96x128.Idx) :
    (dat1 V c).arrAt 3 cfg1.N i = C2 (f (i 0)) g b (i 1) (i 2) (i 3) := by
  refine congrFun ((dat1 V c).arrAt_eq_of_covers 3 (fun i : S4x96x96x128.Idx => C2 (f (i 0)) g b (i 1) (i 2) (i 3))
    (by decide +kernel) fun t hf y => ?_) i
  blk_simp
  rw [after1_3]
  refine (out1_read _ _ _ (f t.val) g b ?_ ?_ ?_ _).trans ?_
  · intro j
    refine (hx _).trans ?_
    blk_simp [index1_0]
  · intro j
    refine (hw _).trans ?_
    blk_simp [index1_1]
  · intro j
    refine (hb _).trans ?_
    blk_simp [index1_2]
  blk_simp [index1_3]

end Cert.KernelIdeal.Gen
-- ==== Proof.Nearest.lean ====
/-
  The nearest of 512 codebook entries: the first entry whose distance is least.
-/
module

public import Idealize.ShloMosaic.Lib.Pointwise
public import Idealize.ShloMosaic.PureOps.Ideal.Laws

@[expose] public section

noncomputable section

namespace Cert.Vq

open Idealize.ShloMosaic

theorem exists_nearest (d : ℕ → EReal) : ∃ k, k < 512 ∧ ∀ j, j < 512 → d k ≤ d j := by
  obtain ⟨k, hk, h⟩ := Finset.exists_min_image (Finset.range 512) d ⟨0, by simp⟩
  exact ⟨k, by simpa using hk, fun j hj => h j (by simpa using hj)⟩

open Classical in
/-- The first of 512 entries at which `d` is least. -/
def nearest (d : ℕ → EReal) : ℕ := Nat.find (exists_nearest d)

theorem nearest_lt (d : ℕ → EReal) : nearest d < 512 := by
  classical exact (Nat.find_spec (exists_nearest d)).1

theorem nearest_le (d : ℕ → EReal) (j : ℕ) (hj : j < 512) : d (nearest d) ≤ d j := by
  classical exact (Nat.find_spec (exists_nearest d)).2 j hj

/-- An earlier entry than the nearest is strictly farther. -/
theorem nearest_first (d : ℕ → EReal) (j : ℕ) (hj : j < nearest d) : d (nearest d) < d j := by
  classical
  by_contra h
  refine Nat.find_min (exists_nearest d) hj ⟨hj.trans (nearest_lt d), fun i hi => ?_⟩
  exact (not_lt.mp h).trans (nearest_le d i hi)

theorem nearest_unique (d : ℕ → EReal) (k : ℕ) (hk : k < 512) (hle : ∀ j, j < 512 → d k ≤ d j)
    (hlt : ∀ j, j < k → d k < d j) : nearest d = k := by
  rcases lt_trichotomy (nearest d) k with h | h | h
  · exact absurd (hlt _ h) (not_lt.mpr (nearest_le d k hk))
  · exact h
  · exact absurd (nearest_first d k h) (not_lt.mpr (hle _ (nearest_lt d)))

/-- The minimum of the 512 distances is the nearest entry's. -/
theorem fold_min_nearest (d : ℕ → EReal) :
    (Finset.univ : Finset (Fin 512)).fold min (⊤ : EReal) (fun k : Fin 512 => d k.val) = d (nearest d) := by
  apply le_antisymm
  · exact (Finset.fold_min_le _).mpr (Or.inr ⟨⟨nearest d, nearest_lt d⟩, Finset.mem_univ _, le_rfl⟩)
  · exact (Finset.le_fold_min _).mpr ⟨le_top, fun k _ => nearest_le d k.val k.isLt⟩

theorem minsi_ofNat (a b : ℕ) (ha : a < 2 ^ 31) (hb : b < 2 ^ 31) :
    IntOp.minsi (BitVec.ofNat 32 a) (BitVec.ofNat 32 b) = BitVec.ofNat 32 (min a b) := by
  have e (n : ℕ) (hn : n < 2 ^ 31) : (BitVec.ofNat 32 n).toInt = n := by
    rw [BitVec.toInt_eq_toNat_of_lt (by rw [BitVec.toNat_ofNat]; omega), BitVec.toNat_ofNat,
      Nat.mod_eq_of_lt (by omega)]
  unfold IntOp.minsi
  rw [BitVec.slt, e a ha, e b hb]
  rcases lt_or_ge a b with h | h
  · rw [min_eq_left h.le]; simp [h]
  · rw [min_eq_right h]; simp [not_lt.mpr h]

/-- A signed minimum of small words is the word of the minimum. -/
theorem fold_minsi_ofNat (S : Finset (Fin 512)) (g : Fin 512 → ℕ) (hg : ∀ k, g k < 2 ^ 31) (n : ℕ) (hn : n < 2 ^ 31) :
    S.fold min n g < 2 ^ 31 ∧
      S.fold IntOp.minsi (BitVec.ofNat 32 n) (fun k => BitVec.ofNat 32 (g k)) = BitVec.ofNat 32 (S.fold min n g) := by
  induction S using Finset.induction_on with
  | empty => exact ⟨by simpa using hn, by simp⟩
  | insert a s ha ih =>
    rw [Finset.fold_insert ha, Finset.fold_insert ha, ih.2, minsi_ofNat _ _ (hg a) ih.1]
    exact ⟨lt_of_le_of_lt (min_le_left _ _) (hg a), rfl⟩

/-- The least position among those whose distance is the least, other positions counted as 512. -/
theorem fold_min_position (d : ℕ → EReal) :
    (Finset.univ : Finset (Fin 512)).fold IntOp.minsi 2147483647#32
      (fun k : Fin 512 => if d k.val = d (nearest d) then BitVec.ofNat 32 k.val else 512#32)
        = BitVec.ofNat 32 (nearest d) := by
  have h := (fold_minsi_ofNat Finset.univ (fun k : Fin 512 => if d k.val = d (nearest d) then k.val else 512)
    (fun k => by have := k.isLt; split <;> omega) 2147483647 (by norm_num)).2
  have e : (fun k : Fin 512 => BitVec.ofNat 32 (if d k.val = d (nearest d) then k.val else 512))
      = (fun k : Fin 512 => if d k.val = d (nearest d) then BitVec.ofNat 32 k.val else 512#32) := by
    funext k; split <;> rfl
  rw [e] at h
  refine h.trans (congrArg _ (le_antisymm ?_ ?_))
  · exact (Finset.fold_min_le _).mpr (Or.inr ⟨⟨nearest d, nearest_lt d⟩, Finset.mem_univ _, by simp⟩)
  · refine (Finset.le_fold_min _).mpr ⟨by have := nearest_lt d; omega, fun k _ => ?_⟩
    split
    · rename_i hk
      by_contra hlt
      exact absurd (nearest_first d k.val (not_le.mp hlt)) (by rw [hk]; exact lt_irrefl _)
    · exact (nearest_lt d).le

/-- The codebook entry nearest to the vector `z`, the entries' squared norms being `n`. -/
def near (z n : ℕ → EReal) : ℕ := nearest fun k => (∑ c : Fin 128, z c * z c) + n k

/-- A stable sort that puts greater numbers first begins with the first of the greatest. -/
theorem stableSort_head {n : ℕ} (R : Fin n → Fin n → Bool) (f : Fin n → EReal) (hR : ∀ a b, R a b = true ↔ f b < f a)
    (l : List (Fin n)) (hl : l.Pairwise (· < ·)) (hne : l ≠ []) :
    ∃ k t, stableSort R l = k :: t ∧ k ∈ l ∧ (∀ b ∈ l, f b ≤ f k) ∧ ∀ b ∈ l, b < k → f b < f k := by
  induction l with
  | nil => exact absurd rfl hne
  | cons a l ih =>
    obtain ⟨ha, hl'⟩ := List.pairwise_cons.mp hl
    rcases l with _ | ⟨c, l⟩
    · exact ⟨a, [], rfl, by simp, by simp, by simp⟩
    obtain ⟨k, t, hs, hk, hle, hlt⟩ := ih hl' (by simp)
    rw [stableSort, hs, insertBefore]
    by_cases h : R k a = true
    · rw [if_pos h]
      have hka := (hR k a).mp h
      refine ⟨k, _, rfl, List.mem_cons_of_mem _ hk, fun b hb => ?_, fun b hb hbk => ?_⟩
      · rcases List.mem_cons.mp hb with rfl | hb
        · exact hka.le
        · exact hle b hb
      · rcases List.mem_cons.mp hb with rfl | hb
        · exact hka
        · exact hlt b hb hbk
    · rw [if_neg h]
      have hka : f k ≤ f a := not_lt.mp fun h' => h ((hR k a).mpr h')
      refine ⟨a, _, rfl, List.mem_cons_self, fun b hb => ?_, fun b hb hba => ?_⟩
      · rcases List.mem_cons.mp hb with rfl | hb
        · exact le_rfl
        · exact (hle b hb).trans hka
      · rcases List.mem_cons.mp hb with rfl | hb
        · exact absurd hba (lt_irrefl _)
        · exact absurd hba (lt_asymm (ha b hb))

/-- Sorted by falling negated distance, the first position is the nearest entry's. -/
theorem sorted_nearest (d : ℕ → EReal) (R : Fin 512 → Fin 512 → Bool)
    (hR : ∀ a b, R a b = true ↔ -d b.val < -d a.val) : (sortedFrom R 0).val = nearest d := by
  obtain ⟨k, t, hs, -, hle, hlt⟩ := stableSort_head R (fun k => -d k.val) hR (List.finRange 512)
    (List.pairwise_lt_finRange 512) (by simp)
  have h0 : sortedFrom R 0 = k := by
    unfold sortedFrom sortPositions
    simp only [List.get_eq_getElem, hs]
    rfl
  rw [h0]
  refine (nearest_unique d k k.isLt (fun j hj => ?_) fun j hj => ?_).symm
  · exact EReal.neg_le_neg_iff.mp (hle ⟨j, hj⟩ (List.mem_finRange _))
  · exact EReal.neg_lt_neg_iff.mp (hlt ⟨j, hj.trans k.isLt⟩ (List.mem_finRange _) hj)

theorem along_nearest {M : ℕ} (x : (⟨2, ![M, 512]⟩ : Shape).Idx → EReal) (d : ℕ → ℕ → EReal)
    (hx : ∀ i, x i = -d (i 0) (i 1)) (J : (⟨2, ![M, 512]⟩ : Shape).Idx) (hJ : J 1 = (0 : Fin 512)) :
    (Shape.Idx.along J 1 (sortedFrom (fun k k' => FloatOps.cmpfTotal (F := Ideal) (φ := .f32) .gt
      (x (Shape.Idx.along J 1 k)) (x (Shape.Idx.along J 1 k')) == 1#1) (J 1)) 1).val = nearest (d (J 0)) := by
  have hR (k : Fin 512) : x (Shape.Idx.along J 1 k) = -d (J 0) k := hx _
  have ha (k : Fin 512) : Shape.Idx.along J 1 k 1 = k := Function.update_self ..
  rw [hJ]
  refine (congrArg Fin.val (ha _)).trans (sorted_nearest (d (J 0)) _ fun a b => ?_)
  rw [hR, hR, Ideal.cmpfTotal_def, beq_iff_eq]
  show BitVec.ofBool (decide (-d (J 0) b < -d (J 0) a)) = 1#1 ↔ _
  by_cases h : -d (J 0) b < -d (J 0) a <;> simp [h]

/-- The index a top-one of negated distances gives is the nearest entry's. -/
theorem topK_nearest {M : ℕ} (x : (⟨2, ![M, 512]⟩ : Shape).Idx → EReal) (d : ℕ → ℕ → EReal)
    (hx : ∀ i, x i = -d (i 0) (i 1)) (h) (i : (⟨2, ![M, 1]⟩ : Shape).Idx) :
    (Host.topK (⟨2, ![M, 1]⟩ : Shape) 1 (FloatOps.cmpfTotal (F := Ideal) (φ := .f32) .gt) x h).2 i
      = BitVec.ofNat 32 (nearest (d (i 0))) := by
  unfold Host.topK Host.sort2 extractStridedSlice
  simp only [Nat.one_lt_ofNat, dite_true]
  have hi : (i 1).val < 1 := (i 1).isLt
  refine congrArg (BitVec.ofNat 32) ((along_nearest x d hx _ ?_).trans ?_)
  · exact Fin.ext ((Nat.zero_add _).trans (Nat.lt_one_iff.mp hi))
  · exact congrArg (fun k => nearest (d k)) (Nat.zero_add _)

end Cert.Vq
-- ==== Proof.Region2.lean ====
/-
  The launch of the third convolution and the quantiser: what its two output arrays hold, from the arrays it is entered
  with.
-/
module

public import proofs.«01_k».proof.Proof.Gen.KernelIdeal.Frame.Region2
public import proofs.«01_k».proof.Proof.Spec
public import proofs.«01_k».proof.Proof.Common
public import proofs.«01_k».proof.Proof.Nearest

@[expose] public section
set_option maxRecDepth 16384
noncomputable section
namespace Cert.KernelIdeal.Gen
open Idealize.ShloMosaic Idealize.ShloMosaic.TcCoe
open Idealize.ShloMosaic.Pipeline (Dat Cfg Window)
open Cert.Vq

/-- The encoder's output on one band of 24 rows, as the last band's payload spells it. -/
def zband (z0 z1 z2 : Vec Ideal S1x24x104x128 .f32) (w0 w1 w2 : Vec Ideal S1x128x384 .f32) (b : Vec Ideal S1x128 .f32) :=
  k2_pay22 (k2_pay20 (F := Ideal)) (k2_pay21 z0) w0 z1 w1 z2 w2 b

theorem zband_apply (z0 z1 z2 : Vec Ideal S1x24x104x128 .f32) (w0 w1 w2 : Vec Ideal S1x128x384 .f32) (b : Vec Ideal S1x128 .f32)
    (r : ℕ) (f g b') (h0 : ∀ i, z0 i = f (r + i 1) (i 2) (i 3)) (h1 : ∀ i, z1 i = f (r + i 1 + 1) (i 2) (i 3))
    (h2 : ∀ i, z2 i = f (r + i 1 + 2) (i 2) (i 3))
    (g0 : ∀ i, w0 i = g 0 (i 1) (i 2)) (g1 : ∀ i, w1 i = g 1 (i 1) (i 2)) (g2 : ∀ i, w2 i = g 2 (i 1) (i 2))
    (hb : ∀ i, b i = b' (i 1)) (i : S24x96x128.Idx) :
   zband z0 z1 z2 w0 w1 w2 b i = C3 f g b' (r + i 0) (i 1) (i 2) := by
  idx_vars i
  pointwise [zband, k2_pay22, k2_pay20, k2_pay21, h0, h1, h2, g0, g1, g2, hb, C3, Fin.sum_univ_three]
  have e (k : ℕ) (hk : k < 3) : (i0.val * 104 + (k + i1.val)) % 104 = i1.val + k := by omega
  have e0 : (i0.val * 104 + i1.val) % 104 = i1.val := by omega
  rw [e0, e 1 (by omega), e 2 (by omega)]
  simp only [← add_assoc]

/-- A one-hot weight: one at the position, zero elsewhere. -/
theorem onehot_val (a b : ℕ) (ha : a < 512) (hb : b < 512) :
    (FloatOps.sitofp (F := Ideal) FTy.f32 (BitVec.setWidth 32 (IntOp.cmpi CmpIPredicate.eq (BitVec.ofNat 32 a) (BitVec.ofNat 32 b))) : EReal)
      = if a = b then 1 else 0 := by
  show (((BitVec.setWidth 32 (IntOp.cmpi CmpIPredicate.eq (BitVec.ofNat 32 a) (BitVec.ofNat 32 b))).toInt : ℝ) : EReal) = _
  rw [cmpi_eq_ofNat a b (by omega) (by omega)]
  by_cases hab : a = b <;> simp [hab]

theorem quant_apply (v1 : FVec Ideal S1x512 .f32) (cb : Vec Ideal S512x128 .f32) (z : FVec Ideal S24x96x128 .f32)
    (n : ℕ → EReal) (e : ℕ → ℕ → EReal) (zf : ℕ → ℕ → ℕ → EReal) (hn : ∀ i, v1 i = n (i 1)) (he : ∀ i, cb i = e (i 0) (i 1))
    (hz : ∀ i, z i = zf (i 0) (i 1) (i 2)) (i : S2304x128.Idx) :
    k2_pay24 v1 cb z i = e (near (zf (i 0 / 96) (i 0 % 96)) n) (i 1) := by
  idx_vars i
  pointwise [k2_pay24, k2_pay23, hn, he, hz, near]
  have hd := fold_min_nearest fun k => (∑ c : Fin 128, zf (i0.val / 96) (i0.val % 96) c * zf (i0.val / 96) (i0.val % 96) c) + n k
  have hp := fold_min_position fun k => (∑ c : Fin 128, zf (i0.val / 96) (i0.val % 96) c * zf (i0.val / 96) (i0.val % 96) c) + n k
  have ht : Ideal.ofBits FTy.f32 2139095040#32 = (⊤ : EReal) := by
    simp [Ideal.ofBits, Ideal.ieee]
  rw [ht, hd, hp]
  generalize (fun k => (∑ c : Fin 128, zf (i0.val / 96) (i0.val % 96) c * zf (i0.val / 96) (i0.val % 96) c) + n k) = d
  have hs (x : Fin 512) := onehot_val x.val (nearest d) x.isLt (nearest_lt d)
  simp only [hs, ite_mul, one_mul, zero_mul]
  rw [Finset.sum_eq_single (⟨nearest d, nearest_lt d⟩ : Fin 512)]
  · simp
  · intro b _ hb
    rw [if_neg]; intro h; exact hb (Fin.ext h)
  · simp
/-- A running sum with one band's squared differences added. -/
def vqstep (S : Ideal .f32) (v1 : FVec Ideal S1x512 .f32) (cb : Vec Ideal S512x128 .f32) (z : FVec Ideal S24x96x128 .f32) : Ideal .f32 :=
  Scalar.addf S (extractAt ![0, 0, 0] (shapeCast S1x1x1 (multiReduction .add [1, 2] S1
    (shapeCast S1x2304x128 (mulf (subf (k2_pay24 v1 cb z) (k2_pay23 z)) (subf (k2_pay24 v1 cb z) (k2_pay23 z))) shapeCasts_S2304x128_S1x2304x128)
    0x00000000#32 reduces_S1x2304x128_S1 (.inl rfl) rfl) shapeCasts_S1_S1x1x1) inpos_S1x1x1_p0_0_0)

/-- The squared differences between the codebook rows and the vectors of the band of rows from `r`. -/
def vqband (e : ℕ → ℕ → EReal) (n : ℕ → EReal) (zf : ℕ → ℕ → ℕ → EReal) (r : ℕ) : EReal :=
  ∑ p : Fin 2304, ∑ o : Fin 128, (e (near (zf (r + p / 96) (p % 96)) n) o - zf (r + p / 96) (p % 96) o)
    * (e (near (zf (r + p / 96) (p % 96)) n) o - zf (r + p / 96) (p % 96) o)

/-- The squared differences of one image, band after band. -/
def vqimage (e : ℕ → ℕ → EReal) (n : ℕ → EReal) (zf : ℕ → ℕ → ℕ → EReal) : EReal :=
  vqband e n zf 0 + vqband e n zf 24 + vqband e n zf 48 + vqband e n zf 72

theorem vqstep_apply (S : EReal) (v1 : FVec Ideal S1x512 .f32) (cb : Vec Ideal S512x128 .f32) (z : FVec Ideal S24x96x128 .f32)
    (n : ℕ → EReal) (e : ℕ → ℕ → EReal) (zf : ℕ → ℕ → ℕ → EReal) (r : ℕ) (hn : ∀ i, v1 i = n (i 1)) (he : ∀ i, cb i = e (i 0) (i 1))
    (hz : ∀ i, z i = zf (r + i 0) (i 1) (i 2)) : vqstep S v1 cb z = S + vqband e n zf r := by
  have hq := quant_apply v1 cb z n e (fun y => zf (r + y)) hn he hz
  have h3 : ∀ i, k2_pay23 z i = zf (r + i 0 / 96) (i 0 % 96) (i 1) := by
    intro i; idx_vars i; pointwise [k2_pay23, hz]
  unfold vqstep
  show S + _ = _
  congr 1
  pointwise [hq, h3, vqband]

theorem tile_apply (v1 : FVec Ideal S1x512 .f32) (cb : Vec Ideal S512x128 .f32) (S : EReal) (z : FVec Ideal S24x96x128 .f32)
    (i : S1x8x128.Idx) : k2_pay26 v1 cb S z i = if (i 1 : ℕ) = 0 ∧ (i 2 : ℕ) = 0 then vqstep S v1 cb z else 0 := by
  have h : k2_pay26 v1 cb S z = shapeCast S1x8x128 (select (andi (cmpi .eq (iota .tc S8x128 32 [0] iota_S8x128_d0_w32) (broadcast S8x128 0#32))
      (cmpi .eq (iota .tc S8x128 32 [1] iota_S8x128_d1_w32) (broadcast S8x128 0#32)))
      (broadcast S8x128 (vqstep S v1 cb z)) (broadcast S8x128 (Scalar.ofBits .f32 0x00000000#32))) shapeCasts_S8x128_S1x8x128 := rfl
  rw [h]
  generalize vqstep S v1 cb z = T
  idx_vars i
  pointwise []
  exact select_corner _ _ (by omega) (by omega) _ _

theorem zband_ld (x0 : Vec Ideal S1x98x104x128 .f32) (x1 : Vec Ideal S3x128x384 .f32) (x2 : Vec Ideal S1x128 .f32)
    (f : ℕ → ℕ → ℕ → EReal) (g : ℕ → ℕ → ℕ → EReal) (b : ℕ → EReal) (hx : ∀ i, x0 i = f (i 1) (i 2) (i 3)) (hw : ∀ i, x1 i = g (i 0) (i 1) (i 2)) (hb : ∀ i, x2 i = b (i 1))
    (r r1 r2 : ℕ) (h1 : r1 = r + 1) (h2 : r2 = r + 2) (i0 i1 i2) (j : S24x96x128.Idx) :
    zband (View.ld x0 (Rect.unit (s := S1x98x104x128) ![0, r, 0, 0] S1x24x104x128.size i0))
        (View.ld x0 (Rect.unit (s := S1x98x104x128) ![0, r1, 0, 0] S1x24x104x128.size i1))
        (View.ld x0 (Rect.unit (s := S1x98x104x128) ![0, r2, 0, 0] S1x24x104x128.size i2))
        (View.ld x1 r2_3) (View.ld x1 r2_5) (View.ld x1 r2_7) (View.ld x2 r2_8) j
      = C3 f g b (r + j 0) (j 1) (j 2) := by
  subst h1 h2
  refine zband_apply _ _ _ _ _ _ _ r f g b ?_ ?_ ?_ ?_ ?_ ?_ ?_ j
  · intro j; rw [View.ld_apply]; refine (hx _).trans ?_; simp only [emb_unit_val]; simp
  · intro j; rw [View.ld_apply]; refine (hx _).trans ?_; simp only [emb_unit_val]; simp
    exact congrArg (f · _ _) (by omega)
  · intro j; rw [View.ld_apply]; refine (hx _).trans ?_; simp only [emb_unit_val]; simp
    exact congrArg (f · _ _) (by omega)
  · intro j; pointwise [hw]
  · intro j; pointwise [hw]
  · intro j; pointwise [hw]
  · intro j; pointwise [hb]

/-- A piece of the first output: the codebook rows nearest to the vectors of the band of rows from `r`. -/
theorem piece2 (v1 : FVec Ideal S1x512 .f32) (cb : Vec Ideal S512x128 .f32) (z : FVec Ideal S24x96x128 .f32)
    (n : ℕ → EReal) (e : ℕ → ℕ → EReal) (zf : ℕ → ℕ → ℕ → EReal) (hn : ∀ i, v1 i = n (i 1)) (he : ∀ i, cb i = e (i 0) (i 1))
    (r R : ℕ) (hR : R = 96 * r) (hz : ∀ i, z i = zf (r + i 0) (i 1) (i 2)) (i0) (x : S1x2304x128.Idx) :
    k2_pay25 v1 cb z x = (fun i : S1x9216x128.Idx => e (near (zf (i 1 / 96) (i 1 % 96)) n) (i 2))
      ((Rect.unit (s := S1x9216x128) ![0, R, 0] S1x2304x128.size i0).emb x) := by
  subst hR
  have hq := quant_apply v1 cb z n e (fun y => zf (r + y)) hn he hz
  simp only [emb_unit_val]
  idx_vars x
  have d0 : (96 * r + x1.val) / 96 = r + x1.val / 96 := by omega
  have m0 : (96 * r + x1.val) % 96 = x1.val % 96 := by omega
  pointwise [k2_pay25, hq]
  simp [d0, m0]

theorem vqstep_from (v1 : FVec Ideal S1x512 .f32) (cb : Vec Ideal S512x128 .f32)
    (n : ℕ → EReal) (e : ℕ → ℕ → EReal) (zf : ℕ → ℕ → ℕ → EReal) (hn : ∀ i, v1 i = n (i 1)) (he : ∀ i, cb i = e (i 0) (i 1))
    (S T : EReal) (z : FVec Ideal S24x96x128 .f32) (r : ℕ)
    (hz : ∀ i, z i = zf (r + i 0) (i 1) (i 2)) (hS : S = T) : vqstep S v1 cb z = T + vqband e n zf r :=
  hS ▸ vqstep_apply S v1 cb z n e zf r hn he hz

variable (x0 : Vec Ideal S1x98x104x128 .f32) (x1 : Vec Ideal S3x128x384 .f32) (x2 : Vec Ideal S1x128 .f32)
  (x3 : Vec Ideal S512x128 .f32) (x4 : Vec Ideal S1x512 .f32)

theorem out2_5_read (f : ℕ → ℕ → ℕ → EReal) (g : ℕ → ℕ → ℕ → EReal) (b : ℕ → EReal) (e : ℕ → ℕ → EReal) (n : ℕ → EReal) (hx : ∀ i, x0 i = f (i 1) (i 2) (i 3)) (hw : ∀ i, x1 i = g (i 0) (i 1) (i 2))
    (hb : ∀ i, x2 i = b (i 1)) (he : ∀ i, x3 i = e (i 0) (i 1)) (hn : ∀ i, x4 i = n (i 1)) (i : S1x9216x128.Idx) :
    out2_5 x0 x1 x2 x3 x4 i = e (near (C3 f g b (i 1 / 96) (i 1 % 96)) n) (i 2) := by
  refine View.canon_apply_of_pieces (Val := Elt Ideal)
    (fun i : S1x9216x128.Idx => e (near (C3 f g b (i 1 / 96) (i 1 % 96)) n) (i 2)) _ ?_ i (cover2_5 _ _ _ _ i)
  intro p hp
  have he' : ∀ j, View.ld x3 r2_1 j = e (j 0) (j 1) := by intro j; pointwise [he]
  have hn' : ∀ j, k2_pay27 x0 x1 x2 x3 x4 j = n (j 1) := by intro j; pointwise [k2_pay27, k2_pay1, hn]
  have hz := zband_ld x0 x1 x2 f g b hx hw hb
  simp only [List.mem_cons, List.not_mem_nil, or_false] at hp
  rcases hp with rfl | rfl | rfl | rfl <;> intro x
  · exact piece2 _ _ _ n e _ hn' he' 72 6912 rfl (hz 72 73 74 rfl rfl (by decide) (by decide) (by decide)) (by decide) x
  · exact piece2 _ _ _ n e _ hn' he' 48 4608 rfl (hz 48 49 50 rfl rfl (by decide) (by decide) (by decide)) (by decide) x
  · exact piece2 _ _ _ n e _ hn' he' 24 2304 rfl (hz 24 25 26 rfl rfl (by decide) (by decide) (by decide)) (by decide) x
  · exact piece2 _ _ _ n e _ hn' he' 0 0 rfl (hz 0 1 2 rfl rfl (by decide) (by decide) (by decide)) (by decide) x

theorem out2_6_read (f : ℕ → ℕ → ℕ → EReal) (g : ℕ → ℕ → ℕ → EReal) (b : ℕ → EReal) (e : ℕ → ℕ → EReal) (n : ℕ → EReal) (hx : ∀ i, x0 i = f (i 1) (i 2) (i 3)) (hw : ∀ i, x1 i = g (i 0) (i 1) (i 2))
    (hb : ∀ i, x2 i = b (i 1)) (he : ∀ i, x3 i = e (i 0) (i 1)) (hn : ∀ i, x4 i = n (i 1)) (i : S1x8x128.Idx) :
    out2_6 x0 x1 x2 x3 x4 i = corner (vqimage e n (C3 f g b)) (i 1) (i 2) := by
  have he' : ∀ j, View.ld x3 r2_1 j = e (j 0) (j 1) := by intro j; pointwise [he]
  have hn' : ∀ j, k2_pay27 x0 x1 x2 x3 x4 j = n (j 1) := by intro j; pointwise [k2_pay27, k2_pay1, hn]
  have hz := zband_ld x0 x1 x2 f g b hx hw hb
  have h := vqstep_from (k2_pay27 x0 x1 x2 x3 x4) (View.ld x3 r2_1) n e (C3 f g b) hn' he'
  have h3 := h _ _ _ 72 (hz 72 73 74 rfl rfl (by decide) (by decide) (by decide))
    (h _ _ _ 48 (hz 48 49 50 rfl rfl (by decide) (by decide) (by decide))
      (h _ _ _ 24 (hz 24 25 26 rfl rfl (by decide) (by decide) (by decide))
        (h _ _ _ 0 (hz 0 1 2 rfl rfl (by decide) (by decide) (by decide)) zero_bits)))
  refine View.canon_apply_of_pieces (Val := Elt Ideal) (fun i : S1x8x128.Idx => corner (vqimage e n (C3 f g b)) (i 1) (i 2)) _ ?_ i
    (cover2_6 _ i)
  intro p hp
  simp only [List.mem_cons, List.not_mem_nil, or_false] at hp
  subst hp
  intro x
  refine (tile_apply _ _ _ _ x).trans ((if_congr Iff.rfl h3 rfl).trans ?_)
  simp only [corner, emb_unit_val, vqimage, zero_add]
  simp

variable (V : (c : Dev nD) → (b : Ref sig .tc) → Buf (Elt Ideal) ((c : Thread nD τ).loc b))

theorem index2_0 : ∀ t : Fin cfg2.N, win2_0.index t = ![t.val, 0, 0, 0] := by decide +kernel
theorem index2_1 : ∀ t : Fin cfg2.N, win2_1.index t = ![0, 0, 0] := by decide +kernel
theorem index2_2 : ∀ t : Fin cfg2.N, win2_2.index t = ![0, 0] := by decide +kernel
theorem index2_3 : ∀ t : Fin cfg2.N, win2_3.index t = ![0, 0] := by decide +kernel
theorem index2_4 : ∀ t : Fin cfg2.N, win2_4.index t = ![0, 0] := by decide +kernel
theorem index2_5 : ∀ t : Fin cfg2.N, win2_5.index t = ![t.val, 0, 0] := by decide +kernel
theorem index2_6 : ∀ t : Fin cfg2.N, win2_6.index t = ![t.val, 0, 0] := by decide +kernel

/-- The first output array: pixel by pixel the codebook row nearest to the encoder's output. -/
theorem arr2_read (c : Dev nD) (f : ℕ → ℕ → ℕ → ℕ → EReal) (g : ℕ → ℕ → ℕ → EReal) (b : ℕ → EReal) (e : ℕ → ℕ → EReal) (n : ℕ → EReal)
    (hx : ∀ i : S4x98x104x128.Idx, V c main_v257 i = f (i 0) (i 1) (i 2) (i 3))
    (hw : ∀ i : S3x128x384.Idx, V c main_v108 i = g (i 0) (i 1) (i 2))
    (hb : ∀ i : S1x128.Idx, V c main_v258 i = b (i 1))
    (he : ∀ i : S512x128.Idx, V c main_arg7 i = e (i 0) (i 1))
    (hn : ∀ i : S1x512.Idx, V c main_v194 i = n (i 1)) (i : S4x9216x128.Idx) :
    (dat2 V c).arrAt 5 cfg2.N i = e (near (C3 (f (i 0)) g b (i 1 / 96) (i 1 % 96)) n) (i 2) := by
  refine congrFun ((dat2 V c).arrAt_eq_of_covers 5
    (fun i : S4x9216x128.Idx => e (near (C3 (f (i 0)) g b (i 1 / 96) (i 1 % 96)) n) (i 2))
    (by decide +kernel) fun t hf y => ?_) i
  blk_simp
  rw [after2_5]
  refine (out2_5_read _ _ _ _ _ (f t.val) g b e n ?_ ?_ ?_ ?_ ?_ _).trans ?_
  · intro j
    refine (hx _).trans ?_
    blk_simp [index2_0]
  · intro j
    refine (hw _).trans ?_
    blk_simp [index2_1]
  · intro j
    refine (hb _).trans ?_
    blk_simp [index2_2]
  · intro j
    refine (he _).trans ?_
    blk_simp [index2_3]
  · intro j
    refine (hn _).trans ?_
    blk_simp [index2_4]
  blk_simp [index2_5]

/-- The second output array: at the corner of each image's tile the sum of its squared differences, else zero. -/
theorem arr2_loss (c : Dev nD) (f : ℕ → ℕ → ℕ → ℕ → EReal) (g : ℕ → ℕ → ℕ → EReal) (b : ℕ → EReal) (e : ℕ → ℕ → EReal) (n : ℕ → EReal)
    (hx : ∀ i : S4x98x104x128.Idx, V c main_v257 i = f (i 0) (i 1) (i 2) (i 3))
    (hw : ∀ i : S3x128x384.Idx, V c main_v108 i = g (i 0) (i 1) (i 2))
    (hb : ∀ i : S1x128.Idx, V c main_v258 i = b (i 1))
    (he : ∀ i : S512x128.Idx, V c main_arg7 i = e (i 0) (i 1))
    (hn : ∀ i : S1x512.Idx, V c main_v194 i = n (i 1)) (i : S4x8x128.Idx) :
    (dat2 V c).arrAt 6 cfg2.N i = corner (vqimage e n (C3 (f (i 0)) g b)) (i 1) (i 2) := by
  refine congrFun ((dat2 V c).arrAt_eq_of_covers 6
    (fun i : S4x8x128.Idx => corner (vqimage e n (C3 (f (i 0)) g b)) (i 1) (i 2))
    (by decide +kernel) fun t hf y => ?_) i
  blk_simp
  rw [after2_6]
  refine (out2_6_read _ _ _ _ _ (f t.val) g b e n ?_ ?_ ?_ ?_ ?_ _).trans ?_
  · intro j
    refine (hx _).trans ?_
    blk_simp [index2_0]
  · intro j
    refine (hw _).trans ?_
    blk_simp [index2_1]
  · intro j
    refine (hb _).trans ?_
    blk_simp [index2_2]
  · intro j
    refine (he _).trans ?_
    blk_simp [index2_3]
  · intro j
    refine (hn _).trans ?_
    blk_simp [index2_4]
  blk_simp [index2_6]

end Cert.KernelIdeal.Gen
-- ==== Proof.Region4.lean ====
/-
  The first transposed convolution's launch: what its output array holds, entry by entry, from the arrays it is
  entered with.
-/
module

public import proofs.«01_k».proof.Proof.Gen.KernelIdeal.Frame.Region4
public import proofs.«01_k».proof.Proof.Spec
public import proofs.«01_k».proof.Proof.Common

@[expose] public section
set_option maxRecDepth 16384
noncomputable section
namespace Cert.KernelIdeal.Gen
open Idealize.ShloMosaic Idealize.ShloMosaic.TcCoe
open Idealize.ShloMosaic.Pipeline (Dat Cfg Window)
open Cert.Vq

/-- One output of parity `p`, `q` of a stride-two transposed convolution, from the framed image and the four filter taps
    of that parity laid side by side, plus the bias, cut off at zero. -/
def C5 (f : ℕ → ℕ → ℕ → EReal) (g : ℕ → ℕ → ℕ → ℕ → EReal) (b : ℕ → EReal) (p q y x o : ℕ) : EReal :=
  max ((∑ i : Fin 2, ∑ j : Fin 2, ∑ c : Fin 128, f (y + p + i) (x + q + j) c * g p q c ((i * 2 + j) * 64 + o)) + b o) 0

/-- One band of 24 rows of column parity `q`, as the first band of that parity spells it. -/
def band4 (q : Fin 2) (z : Vec Ideal S1x25x104x128 .f32) (w : Vec Ideal S1x1x128x256 .f32) (b : Vec Ideal S1x64 .f32) :=
  match q with
  | 0 => k4_pay2 z w b
  | 1 => k4_pay10 z w b

theorem band4_apply (q : Fin 2) (z : Vec Ideal S1x25x104x128 .f32) (w : Vec Ideal S1x1x128x256 .f32)
    (b : Vec Ideal S1x64 .f32) (r p : ℕ) (f g b')
    (hz : ∀ i, z i = f (r + p + i 1) (i 2) (i 3)) (hw : ∀ i, w i = g p q (i 2) (i 3)) (hb : ∀ i, b i = b' (i 1))
    (i : S1x1x1x24x96x64.Idx) : band4 q z w b i = C5 f g b' p q (r + i 3) (i 4) (i 5) := by
  idx_vars i
  have d0 : (i3.val * 104 + i4.val) / 104 = i3.val := by omega
  have d1 : (i3.val * 104 + (1 + i4.val)) / 104 = i3.val := by omega
  have d2 : ((1 + i3.val) * 104 + i4.val) / 104 = i3.val + 1 := by omega
  have d3 : ((1 + i3.val) * 104 + (1 + i4.val)) / 104 = i3.val + 1 := by omega
  have d4 : (i3.val * 104 + (2 + i4.val)) / 104 = i3.val := by omega
  have d5 : ((1 + i3.val) * 104 + (2 + i4.val)) / 104 = i3.val + 1 := by omega
  have m0 : (i3.val * 104 + i4.val) % 104 = i4.val := by omega
  have m1 : (i3.val * 104 + (1 + i4.val)) % 104 = i4.val + 1 := by omega
  have m2 : ((1 + i3.val) * 104 + i4.val) % 104 = i4.val := by omega
  have m3 : ((1 + i3.val) * 104 + (1 + i4.val)) % 104 = i4.val + 1 := by omega
  have m4 : (i3.val * 104 + (2 + i4.val)) % 104 = i4.val + 2 := by omega
  have m5 : ((1 + i3.val) * 104 + (2 + i4.val)) % 104 = i4.val + 2 := by omega
  have r0 : r + p + i3.val = r + i3.val + p := by omega
  have r1 : r + p + (i3.val + 1) = r + i3.val + p + 1 := by omega
  fin_cases q
  · pointwise [band4, k4_pay2, hz, hw, hb, C5, Fin.sum_univ_two]
    simp only [d0, d1, d2, d3, d4, d5, m0, m1, m2, m3, m4, m5, r0, r1]
    simp only [← add_assoc]
  · pointwise [band4, k4_pay10, hz, hw, hb, C5, Fin.sum_univ_two]
    simp only [d0, d1, d2, d3, d4, d5, m0, m1, m2, m3, m4, m5, r0, r1]
    simp only [← add_assoc]

/-- A piece of the block: the band of rows from `r` of parity `p`, `q`, stored at its place. -/
theorem piece4 (q : Fin 2) (x0 : Vec Ideal S1x98x104x128 .f32) (x1 : Vec Ideal S2x2x128x256 .f32) (x2 : Vec Ideal S1x64 .f32)
    (f g b) (hx : ∀ i, x0 i = f (i 1) (i 2) (i 3)) (hw : ∀ i, x1 i = g (i 0) (i 1) (i 2) (i 3)) (hb : ∀ i, x2 i = b (i 1))
    (r p R q' : ℕ) (hR : R = r + p) (hq : q' = q) (i0 i1 i2) (x : S1x1x1x24x96x64.Idx) :
    band4 q (View.ld x0 (Rect.unit (s := S1x98x104x128) ![0, R, 0, 0] S1x25x104x128.size i0))
        (View.ld x1 (Rect.unit (s := S2x2x128x256) ![p, q', 0, 0] S1x1x128x256.size i1)) (View.ld x2 r4_2) x
      = (fun i : S1x2x2x96x96x64.Idx => C5 f g b (i 1) (i 2) (i 3) (i 4) (i 5))
          ((Rect.unit (s := S1x2x2x96x96x64) ![0, p, q', r, 0, 0] S1x1x1x24x96x64.size i2).emb x) := by
  subst hR hq
  have a1 : (x 1).val = 0 := by have := (x 1).isLt; change (x 1).val < 1 at this; omega
  have a2 : (x 2).val = 0 := by have := (x 2).isLt; change (x 2).val < 1 at this; omega
  refine (band4_apply q _ _ _ r p f g b ?_ ?_ ?_ x).trans (by simp only [emb_unit_val]; simp [a1, a2])
  · intro j
    rw [View.ld_apply]
    refine (hx _).trans ?_
    simp only [emb_unit_val]; simp
  · intro j
    have b0 : (j 0).val = 0 := by have := (j 0).isLt; change (j 0).val < 1 at this; omega
    have b1 : (j 1).val = 0 := by have := (j 1).isLt; change (j 1).val < 1 at this; omega
    rw [View.ld_apply]
    refine (hw _).trans ?_
    simp only [emb_unit_val]; simp [b0, b1]
  · intro j; pointwise [hb]

theorem out4_read (x0 : Vec Ideal S1x98x104x128 .f32) (x1 : Vec Ideal S2x2x128x256 .f32) (x2 : Vec Ideal S1x64 .f32)
    (f g b) (hx : ∀ i, x0 i = f (i 1) (i 2) (i 3)) (hw : ∀ i, x1 i = g (i 0) (i 1) (i 2) (i 3)) (hb : ∀ i, x2 i = b (i 1))
    (i : S1x2x2x96x96x64.Idx) : out4_3 x0 x1 x2 i = C5 f g b (i 1) (i 2) (i 3) (i 4) (i 5) := by
  refine View.canon_apply_of_pieces (Val := Elt Ideal)
    (fun i : S1x2x2x96x96x64.Idx => C5 f g b (i 1) (i 2) (i 3) (i 4) (i 5)) _ ?_ i
    (cover4_3 _ _ _ _ _ _ _ _ _ _ _ _ _ _ _ _ i)
  intro p hp
  simp only [List.mem_cons, List.not_mem_nil, or_false] at hp
  rcases hp with rfl | rfl | rfl | rfl | rfl | rfl | rfl | rfl | rfl | rfl | rfl | rfl | rfl | rfl | rfl | rfl <;>
    intro x
  · exact piece4 1 x0 x1 x2 f g b hx hw hb 72 1 73 1 rfl rfl _ _ (by decide) x
  · exact piece4 1 x0 x1 x2 f g b hx hw hb 48 1 49 1 rfl rfl _ _ (by decide) x
  · exact piece4 1 x0 x1 x2 f g b hx hw hb 24 1 25 1 rfl rfl _ _ (by decide) x
  · exact piece4 1 x0 x1 x2 f g b hx hw hb 0 1 1 1 rfl rfl _ _ (by decide) x
  · exact piece4 0 x0 x1 x2 f g b hx hw hb 72 1 73 0 rfl rfl _ _ (by decide) x
  · exact piece4 0 x0 x1 x2 f g b hx hw hb 48 1 49 0 rfl rfl _ _ (by decide) x
  · exact piece4 0 x0 x1 x2 f g b hx hw hb 24 1 25 0 rfl rfl _ _ (by decide) x
  · exact piece4 0 x0 x1 x2 f g b hx hw hb 0 1 1 0 rfl rfl _ _ (by decide) x
  · exact piece4 1 x0 x1 x2 f g b hx hw hb 72 0 72 1 rfl rfl _ _ (by decide) x
  · exact piece4 1 x0 x1 x2 f g b hx hw hb 48 0 48 1 rfl rfl _ _ (by decide) x
  · exact piece4 1 x0 x1 x2 f g b hx hw hb 24 0 24 1 rfl rfl _ _ (by decide) x
  · exact piece4 1 x0 x1 x2 f g b hx hw hb 0 0 0 1 rfl rfl _ _ (by decide) x
  · exact piece4 0 x0 x1 x2 f g b hx hw hb 72 0 72 0 rfl rfl _ _ (by decide) x
  · exact piece4 0 x0 x1 x2 f g b hx hw hb 48 0 48 0 rfl rfl _ _ (by decide) x
  · exact piece4 0 x0 x1 x2 f g b hx hw hb 24 0 24 0 rfl rfl _ _ (by decide) x
  · exact piece4 0 x0 x1 x2 f g b hx hw hb 0 0 0 0 rfl rfl _ _ (by decide) x

variable (V : (c : Dev nD) → (b : Ref sig .tc) → Buf (Elt Ideal) ((c : Thread nD τ).loc b))

theorem index4_0 : ∀ t : Fin cfg4.N, win4_0.index t = ![t.val, 0, 0, 0] := by decide +kernel
theorem index4_1 : ∀ t : Fin cfg4.N, win4_1.index t = ![0, 0, 0, 0] := by decide +kernel
theorem index4_2 : ∀ t : Fin cfg4.N, win4_2.index t = ![0, 0] := by decide +kernel
theorem index4_3 : ∀ t : Fin cfg4.N, win4_3.index t = ![t.val, 0, 0, 0, 0, 0] := by decide +kernel

/-- The launch's output array: parity, row, column and channel by channel, the transposed convolution. -/
theorem arr4_read (c : Dev nD) (f : ℕ → ℕ → ℕ → ℕ → EReal) (g b)
    (hx : ∀ i : S4x98x104x128.Idx, V c main_v264 i = f (i 0) (i 1) (i 2) (i 3))
    (hw : ∀ i : S2x2x128x256.Idx, V c main_v188 i = g (i 0) (i 1) (i 2) (i 3))
    (hb : ∀ i : S1x64.Idx, V c main_v265 i = b (i 1)) (i : S4x2x2x96x96x64.Idx) :
    (dat4 V c).arrAt 3 cfg4.N i = C5 (f (i 0)) g b (i 1) (i 2) (i 3) (i 4) (i 5) := by
  refine congrFun ((dat4 V c).arrAt_eq_of_covers 3
    (fun i : S4x2x2x96x96x64.Idx => C5 (f (i 0)) g b (i 1) (i 2) (i 3) (i 4) (i 5))
    (by decide +kernel) fun t hf y => ?_) i
  blk_simp
  rw [after4_3]
  refine (out4_read _ _ _ (f t.val) g b ?_ ?_ ?_ _).trans ?_
  · intro j
    refine (hx _).trans ?_
    blk_simp [index4_0]
  · intro j
    refine (hw _).trans ?_
    blk_simp [index4_1]
  · intro j
    refine (hb _).trans ?_
    blk_simp [index4_2]
  blk_simp [index4_3]

end Cert.KernelIdeal.Gen
-- ==== Proof.Region5.lean ====
/-
  The last launch: what its two output arrays hold, the reconstruction phase by phase and each image's squared
  differences, from the arrays it is entered with.
-/
module

public import proofs.«01_k».proof.Proof.Gen.KernelIdeal.Frame.Region5
public import proofs.«01_k».proof.Proof.Spec
public import proofs.«01_k».proof.Proof.Common

@[expose] public section
set_option maxRecDepth 16384
noncomputable section
namespace Cert.KernelIdeal.Gen
open Idealize.ShloMosaic Idealize.ShloMosaic.TcCoe
open Idealize.ShloMosaic.Pipeline (Dat Cfg Window)
open Cert.Vq

/-- One output of parity `p`, `q` of the last transposed convolution, from the framed image and the filter taps of that
    parity, plus the bias. -/
def C6 (f : ℕ → ℕ → ℕ → EReal) (g : ℕ → ℕ → ℕ → EReal) (b : EReal) (p q y x : ℕ) : EReal :=
  (∑ e : Fin 2, ∑ h : Fin 2, ∑ c : Fin 64, f (y + p + e) (x + q + h) c * g (p + 2 * e) (q + 2 * h) c) + b

theorem inb_image (R C : ℕ) (hR : R ≤ 146) (hC : C ≤ 2) :
    ∀ a, (![0, R, C, 0] : Fin S1x194x194x64.rank → ℕ) a + S1x48x192x64.size a ≤ S1x194x194x64.size a := by
  intro a
  match a with
  | ⟨0, _⟩ => exact Nat.le_refl _
  | ⟨1, _⟩ => show R + 48 ≤ 194; omega
  | ⟨2, _⟩ => show C + 192 ≤ 194; omega
  | ⟨3, _⟩ => exact Nat.le_refl _

theorem inb_filter (i j : ℕ) (hi : i ≤ 3) (hj : j ≤ 3) :
    ∀ a, (![i, j, 0] : Fin S4x4x64.rank → ℕ) a + S1x1x64.size a ≤ S4x4x64.size a := by
  intro a
  match a with
  | ⟨0, _⟩ => show i + 1 ≤ 4; omega
  | ⟨1, _⟩ => show j + 1 ≤ 4; omega
  | ⟨2, _⟩ => exact Nat.le_refl _

theorem inb_phase (p q r : ℕ) (hp : p ≤ 1) (hq : q ≤ 1) (hr : r ≤ 144) :
    ∀ a, (![0, p, q, r, 0] : Fin S1x2x2x192x192.rank → ℕ) a + S1x1x1x48x192.size a ≤ S1x2x2x192x192.size a := by
  intro a
  match a with
  | ⟨0, _⟩ => exact Nat.le_refl _
  | ⟨1, _⟩ => show p + 1 ≤ 2; omega
  | ⟨2, _⟩ => show q + 1 ≤ 2; omega
  | ⟨3, _⟩ => show r + 48 ≤ 192; omega
  | ⟨4, _⟩ => exact Nat.le_refl _

variable (x0 : Vec Ideal S1x194x194x64 .f32) (x1 : Vec Ideal S1x2x2x192x192 .f32) (x2 : Vec Ideal S4x4x64 .f32)
  (x3 : Vec Ideal S1x1 .f32)

/-- A band of 48 rows of 192 columns of the framed image. -/
abbrev image (R C : ℕ) (hR : R ≤ 146) (hC : C ≤ 2) : Vec Ideal S1x48x192x64 .f32 :=
  View.ld x0 (Rect.unit (s := S1x194x194x64) ![0, R, C, 0] S1x48x192x64.size (inb_image R C hR hC))

/-- One tap of the filter. -/
abbrev tap (i j : ℕ) (hi : i ≤ 3) (hj : j ≤ 3) : Vec Ideal S1x1x64 .f32 :=
  View.ld x2 (Rect.unit (s := S4x4x64) ![i, j, 0] S1x1x64.size (inb_filter i j hi hj))

/-- One band of the reconstruction of parity `p`, `q`, from row `r`, as the last payload spells it. -/
def recband (p q r : ℕ) (hp : p ≤ 1) (hq : q ≤ 1) (hr : r ≤ 144) : FVec Ideal S48x192 .f32 :=
  k5_pay85 (k5_pay2 (View.ld x3 r5_0))
    (k5_pay84 (image x0 (r + p) q (by omega) (by omega)) (tap x2 p q (by omega) (by omega))
      (image x0 (r + p) (q + 1) (by omega) (by omega)) (tap x2 p (q + 2) (by omega) (by omega))
      (image x0 (r + p + 1) q (by omega) (by omega)) (tap x2 (p + 2) q (by omega) (by omega)))
    (image x0 (r + p + 1) (q + 1) (by omega) (by omega)) (tap x2 (p + 2) (q + 2) (by omega) (by omega))

variable (f : ℕ → ℕ → ℕ → EReal) (g : ℕ → ℕ → ℕ → EReal) (b : EReal) (xs : ℕ → ℕ → ℕ → ℕ → EReal)

include f in
theorem image_apply (hx : ∀ i, x0 i = f (i 1) (i 2) (i 3)) (R C : ℕ) (hR : R ≤ 146) (hC : C ≤ 2) (i) :
    image x0 R C hR hC i = f (R + i 1) (C + i 2) (i 3) := by
  unfold image
  rw [View.ld_apply]; refine (hx _).trans ?_; simp only [emb_unit_val]; simp

include g in
theorem tap_apply (hw : ∀ i, x2 i = g (i 0) (i 1) (i 2)) (i j : ℕ) (hi : i ≤ 3) (hj : j ≤ 3) (k : S1x1x64.Idx) :
    tap x2 i j hi hj k = g i j (k 2) := by
  unfold tap
  have b0 : (k 0).val = 0 := by have := (k 0).isLt; change (k 0).val < 1 at this; omega
  have b1 : (k 1).val = 0 := by have := (k 1).isLt; change (k 1).val < 1 at this; omega
  rw [View.ld_apply]; refine (hw _).trans ?_; simp only [emb_unit_val]; simp [b0, b1]

theorem recsum_apply (z0 z1 z2 z3 : Vec Ideal S1x48x192x64 .f32) (w0 w1 w2 w3 : Vec Ideal S1x1x64 .f32) (x3 : Vec Ideal S1x1 .f32)
    (f0 f1 f2 f3 : ℕ → ℕ → ℕ → EReal) (g0 g1 g2 g3 : ℕ → EReal)
    (h0 : ∀ i, z0 i = f0 (i 1) (i 2) (i 3)) (h1 : ∀ i, z1 i = f1 (i 1) (i 2) (i 3)) (h2 : ∀ i, z2 i = f2 (i 1) (i 2) (i 3))
    (h3 : ∀ i, z3 i = f3 (i 1) (i 2) (i 3)) (k0 : ∀ i, w0 i = g0 (i 2)) (k1 : ∀ i, w1 i = g1 (i 2)) (k2 : ∀ i, w2 i = g2 (i 2))
    (k3 : ∀ i, w3 i = g3 (i 2)) (hb : ∀ i, x3 i = b) (i : S48x192.Idx) :
    k5_pay85 (k5_pay2 (View.ld x3 r5_0)) (k5_pay84 z0 w0 z1 w1 z2 w2) z3 w3 i
      = (∑ c : Fin 64, f0 (i 0) (i 1) c * g0 c) + (∑ c : Fin 64, f1 (i 0) (i 1) c * g1 c)
        + (∑ c : Fin 64, f2 (i 0) (i 1) c * g2 c) + (∑ c : Fin 64, f3 (i 0) (i 1) c * g3 c) + b := by
  idx_vars i
  pointwise [k5_pay85, k5_pay84, k5_pay2, h0, h1, h2, h3, k0, k1, k2, k3, hb]

theorem recband_apply (hx : ∀ i, x0 i = f (i 1) (i 2) (i 3)) (hw : ∀ i, x2 i = g (i 0) (i 1) (i 2)) (hb : ∀ i, x3 i = b)
    (p q r : ℕ) (hp : p ≤ 1) (hq : q ≤ 1) (hr : r ≤ 144) (i : S48x192.Idx) :
    recband x0 x2 x3 p q r hp hq hr i = C6 f g b p q (r + i 0) (i 1) := by
  refine (recsum_apply b _ _ _ _ _ _ _ _ x3
    (fun y x => f (r + p + y) (q + x)) (fun y x => f (r + p + y) (q + 1 + x)) (fun y x => f (r + p + 1 + y) (q + x))
    (fun y x => f (r + p + 1 + y) (q + 1 + x)) _ _ _ _ (image_apply x0 f hx _ _ _ _) (image_apply x0 f hx _ _ _ _)
    (image_apply x0 f hx _ _ _ _) (image_apply x0 f hx _ _ _ _) (tap_apply x2 g hw _ _ _ _) (tap_apply x2 g hw _ _ _ _)
    (tap_apply x2 g hw _ _ _ _) (tap_apply x2 g hw _ _ _ _) hb i).trans ?_
  unfold C6
  simp only [Fin.sum_univ_two, Fin.val_zero, Fin.val_one]
  simp only [← add_assoc]
  have r0 : r + (i 0).val + p = r + p + (i 0).val := by omega
  have r1 : r + p + (i 0).val + 1 = r + p + 1 + (i 0).val := by omega
  have r2 : (i 1).val + q = q + (i 1).val := by omega
  have r3 : q + (i 1).val + 1 = q + 1 + (i 1).val := by omega
  simp only [Nat.mul_zero, Nat.mul_one, Nat.add_zero, r0, r1, r2, r3]

/-- A running sum with one band's squared differences added. -/
def rlstep (S : Ideal .f32) (rec : FVec Ideal S48x192 .f32) (x : Vec Ideal S1x1x1x48x192 .f32) : Ideal .f32 :=
  Scalar.addf S (extractAt ![0, 0, 0] (shapeCast S1x1x1 (multiReduction .add [1, 2] S1
    (shapeCast S1x48x192 (mulf (subf rec (shapeCast S48x192 x shapeCasts_S1x1x1x48x192_S48x192))
      (subf rec (shapeCast S48x192 x shapeCasts_S1x1x1x48x192_S48x192))) shapeCasts_S48x192_S1x48x192)
    0x00000000#32 reduces_S1x48x192_S1 (.inl rfl) rfl) shapeCasts_S1_S1x1x1) inpos_S1x1x1_p0_0_0)

/-- The squared differences of one band of 48 rows. -/
def rlband (R : ℕ → ℕ → ℕ → ℕ → EReal) (xs : ℕ → ℕ → ℕ → ℕ → EReal) (p q r : ℕ) : EReal :=
  ∑ y : Fin 48, ∑ x : Fin 192, (R p q (r + y) x - xs p q (r + y) x) * (R p q (r + y) x - xs p q (r + y) x)

theorem rlstep_apply (S : EReal) (rec : FVec Ideal S48x192 .f32) (x : Vec Ideal S1x1x1x48x192 .f32) (R0 xs0 : ℕ → ℕ → EReal)
    (hr : ∀ i, rec i = R0 (i 0) (i 1)) (hx : ∀ i, x i = xs0 (i 3) (i 4)) :
    rlstep S rec x = S + ∑ y : Fin 48, ∑ x : Fin 192, (R0 y x - xs0 y x) * (R0 y x - xs0 y x) := by
  unfold rlstep
  show S + _ = _
  congr 1
  pointwise [hr, hx]

/-- A band of one phase of the image the reconstruction is compared with. -/
abbrev phase (p q r : ℕ) (hp : p ≤ 1) (hq : q ≤ 1) (hr : r ≤ 144) : Vec Ideal S1x1x1x48x192 .f32 :=
  View.ld x1 (Rect.unit (s := S1x2x2x192x192) ![0, p, q, r, 0] S1x1x1x48x192.size (inb_phase p q r hp hq hr))

theorem rlstep_band (hx : ∀ i, x0 i = f (i 1) (i 2) (i 3)) (hs : ∀ i, x1 i = xs (i 1) (i 2) (i 3) (i 4))
    (hw : ∀ i, x2 i = g (i 0) (i 1) (i 2)) (hb : ∀ i, x3 i = b)
    (p q r : ℕ) (hp : p ≤ 1) (hq : q ≤ 1) (hr : r ≤ 144) (S T : EReal) (hS : S = T) :
    rlstep S (recband x0 x2 x3 p q r hp hq hr) (phase x1 p q r hp hq hr) = T + rlband (C6 f g b) xs p q r := by
  subst hS
  refine rlstep_apply S _ _ (fun y x => C6 f g b p q (r + y) x) (fun y x => xs p q (r + y) x)
    (recband_apply x0 x2 x3 f g b hx hw hb p q r hp hq hr) ?_
  intro i
  have a1 : (i 1).val = 0 := by have := (i 1).isLt; change (i 1).val < 1 at this; omega
  have a2 : (i 2).val = 0 := by have := (i 2).isLt; change (i 2).val < 1 at this; omega
  unfold phase
  rw [View.ld_apply]; refine (hs _).trans ?_; simp only [emb_unit_val]; simp [a1, a2]

/-- A piece of the first output: a band of the reconstruction, stored at its place. -/
theorem piece5 (hx : ∀ i, x0 i = f (i 1) (i 2) (i 3)) (hw : ∀ i, x2 i = g (i 0) (i 1) (i 2)) (hb : ∀ i, x3 i = b)
    (p q r : ℕ) (hp : p ≤ 1) (hq : q ≤ 1) (hr : r ≤ 144) (i0) (x : S1x1x1x48x192.Idx) :
    shapeCast S1x1x1x48x192 (recband x0 x2 x3 p q r hp hq hr) shapeCasts_S48x192_S1x1x1x48x192 x
      = (fun i : S1x2x2x192x192.Idx => C6 f g b (i 1) (i 2) (i 3) (i 4))
          ((Rect.unit (s := S1x2x2x192x192) ![0, p, q, r, 0] S1x1x1x48x192.size i0).emb x) := by
  have hq' := recband_apply x0 x2 x3 f g b hx hw hb p q r hp hq hr
  have a1 : (x 1).val = 0 := by have := (x 1).isLt; change (x 1).val < 1 at this; omega
  have a2 : (x 2).val = 0 := by have := (x 2).isLt; change (x 2).val < 1 at this; omega
  generalize recband x0 x2 x3 p q r hp hq hr = v at hq'
  simp only [emb_unit_val]
  simp only [Matrix.cons_val, a1, a2]
  idx_vars x
  pointwise [hq']

theorem out5_4_read (hx : ∀ i, x0 i = f (i 1) (i 2) (i 3)) (hw : ∀ i, x2 i = g (i 0) (i 1) (i 2)) (hb : ∀ i, x3 i = b)
    (i : S1x2x2x192x192.Idx) : out5_4 x0 x1 x2 x3 i = C6 f g b (i 1) (i 2) (i 3) (i 4) := by
  refine View.canon_apply_of_pieces (Val := Elt Ideal) (fun i : S1x2x2x192x192.Idx => C6 f g b (i 1) (i 2) (i 3) (i 4)) _ ?_ i
    (cover5_4 _ _ _ _ _ _ _ _ _ _ _ _ _ _ _ _ i)
  intro p hp
  have h := piece5 x0 x2 x3 f g b hx hw hb
  simp only [List.mem_cons, List.not_mem_nil, or_false] at hp
  rcases hp with rfl | rfl | rfl | rfl | rfl | rfl | rfl | rfl | rfl | rfl | rfl | rfl | rfl | rfl | rfl | rfl <;>
    intro x
  · exact h 1 1 144 (by decide) (by decide) (by decide) (by decide) x
  · exact h 1 1 96 (by decide) (by decide) (by decide) (by decide) x
  · exact h 1 1 48 (by decide) (by decide) (by decide) (by decide) x
  · exact h 1 1 0 (by decide) (by decide) (by decide) (by decide) x
  · exact h 1 0 144 (by decide) (by decide) (by decide) (by decide) x
  · exact h 1 0 96 (by decide) (by decide) (by decide) (by decide) x
  · exact h 1 0 48 (by decide) (by decide) (by decide) (by decide) x
  · exact h 1 0 0 (by decide) (by decide) (by decide) (by decide) x
  · exact h 0 1 144 (by decide) (by decide) (by decide) (by decide) x
  · exact h 0 1 96 (by decide) (by decide) (by decide) (by decide) x
  · exact h 0 1 48 (by decide) (by decide) (by decide) (by decide) x
  · exact h 0 1 0 (by decide) (by decide) (by decide) (by decide) x
  · exact h 0 0 144 (by decide) (by decide) (by decide) (by decide) x
  · exact h 0 0 96 (by decide) (by decide) (by decide) (by decide) x
  · exact h 0 0 48 (by decide) (by decide) (by decide) (by decide) x
  · exact h 0 0 0 (by decide) (by decide) (by decide) (by decide) x

/-- The squared differences of one phase, band after band, added to a running sum. -/
def rlphase (R : ℕ → ℕ → ℕ → ℕ → EReal) (xs : ℕ → ℕ → ℕ → ℕ → EReal) (p q : ℕ) (S : EReal) : EReal :=
  S + rlband R xs p q 0 + rlband R xs p q 48 + rlband R xs p q 96 + rlband R xs p q 144

/-- The squared differences of one image, phase after phase. -/
def rlimage (R : ℕ → ℕ → ℕ → ℕ → EReal) (xs : ℕ → ℕ → ℕ → ℕ → EReal) : EReal :=
  rlphase R xs 1 1 (rlphase R xs 1 0 (rlphase R xs 0 1 (rlphase R xs 0 0 0)))

/-- The tile the sum is stored in. -/
def rltile (T : Ideal .f32) : FVec Ideal S1x8x128 .f32 :=
  k5_pay1 (select (andi (cmpi .eq (iota .tc S8x128 32 [0] iota_S8x128_d0_w32) (broadcast S8x128 0#32))
      (cmpi .eq (iota .tc S8x128 32 [1] iota_S8x128_d1_w32) (broadcast S8x128 0#32)))
      (broadcast S8x128 T) (broadcast S8x128 (Scalar.ofBits .f32 0x00000000#32)))

theorem rltile_apply (T : EReal) (i : S1x8x128.Idx) : rltile T i = corner T (i 1) (i 2) := by
  unfold rltile corner
  idx_vars i
  pointwise [k5_pay1]
  exact select_corner _ _ (by omega) (by omega) _ _

theorem rlphase_steps (hx : ∀ i, x0 i = f (i 1) (i 2) (i 3)) (hs : ∀ i, x1 i = xs (i 1) (i 2) (i 3) (i 4))
    (hw : ∀ i, x2 i = g (i 0) (i 1) (i 2)) (hb : ∀ i, x3 i = b)
    (p q : ℕ) (hp : p ≤ 1) (hq : q ≤ 1) (S T : EReal) (hS : S = T) :
    rlstep (rlstep (rlstep (rlstep S (recband x0 x2 x3 p q 0 hp hq (by decide)) (phase x1 p q 0 hp hq (by decide)))
      (recband x0 x2 x3 p q 48 hp hq (by decide)) (phase x1 p q 48 hp hq (by decide)))
      (recband x0 x2 x3 p q 96 hp hq (by decide)) (phase x1 p q 96 hp hq (by decide)))
      (recband x0 x2 x3 p q 144 hp hq (by decide)) (phase x1 p q 144 hp hq (by decide))
      = rlphase (C6 f g b) xs p q T :=
  rlstep_band x0 x1 x2 x3 f g b xs hx hs hw hb p q 144 hp hq _ _ _ (rlstep_band x0 x1 x2 x3 f g b xs hx hs hw hb p q 96 hp hq _ _ _
    (rlstep_band x0 x1 x2 x3 f g b xs hx hs hw hb p q 48 hp hq _ _ _ (rlstep_band x0 x1 x2 x3 f g b xs hx hs hw hb p q 0 hp hq _ _ _ hS)))

theorem out5_5_read (hx : ∀ i, x0 i = f (i 1) (i 2) (i 3)) (hs : ∀ i, x1 i = xs (i 1) (i 2) (i 3) (i 4))
    (hw : ∀ i, x2 i = g (i 0) (i 1) (i 2)) (hb : ∀ i, x3 i = b)
    (i : S1x8x128.Idx) : out5_5 x0 x1 x2 x3 i = corner (rlimage (C6 f g b) xs) (i 1) (i 2) := by
  have h := rlphase_steps x0 x1 x2 x3 f g b xs hx hs hw hb
  have hT := h 1 1 (by decide) (by decide) _ _ (h 1 0 (by decide) (by decide) _ _ (h 0 1 (by decide) (by decide) _ _
    (h 0 0 (by decide) (by decide) _ _ zero_bits)))
  refine View.canon_apply_of_pieces (Val := Elt Ideal)
    (fun i : S1x8x128.Idx => corner (rlimage (C6 f g b) xs) (i 1) (i 2)) _ ?_ i (cover5_5 _ i)
  intro p hp
  simp only [List.mem_cons, List.not_mem_nil, or_false] at hp
  subst hp
  intro x
  refine (congrFun (congrArg rltile hT) x).trans ((rltile_apply _ x).trans ?_)
  simp only [emb_unit_val, rlimage]
  simp

variable (V : (c : Dev nD) → (b : Ref sig .tc) → Buf (Elt Ideal) ((c : Thread nD τ).loc b))

theorem index5_0 : ∀ t : Fin cfg5.N, win5_0.index t = ![t.val, 0, 0, 0] := by decide +kernel
theorem index5_1 : ∀ t : Fin cfg5.N, win5_1.index t = ![t.val, 0, 0, 0, 0] := by decide +kernel
theorem index5_2 : ∀ t : Fin cfg5.N, win5_2.index t = ![0, 0, 0] := by decide +kernel
theorem index5_3 : ∀ t : Fin cfg5.N, win5_3.index t = ![0, 0] := by decide +kernel
theorem index5_4 : ∀ t : Fin cfg5.N, win5_4.index t = ![t.val, 0, 0, 0, 0] := by decide +kernel
theorem index5_5 : ∀ t : Fin cfg5.N, win5_5.index t = ![t.val, 0, 0] := by decide +kernel

/-- The first output array: phase by phase the reconstruction. -/
theorem arr5_read (c : Dev nD) (f : ℕ → ℕ → ℕ → ℕ → EReal) (g : ℕ → ℕ → ℕ → EReal) (b : EReal)
    (hx : ∀ i : S4x194x194x64.Idx, V c main_v269 i = f (i 0) (i 1) (i 2) (i 3))
    (hw : ∀ i : S4x4x64.Idx, V c main_v191 i = g (i 0) (i 1) (i 2))
    (hb : ∀ i : S1x1.Idx, V c main_v273 i = b) (i : S4x2x2x192x192.Idx) :
    (dat5 V c).arrAt 4 cfg5.N i = C6 (f (i 0)) g b (i 1) (i 2) (i 3) (i 4) := by
  refine congrFun ((dat5 V c).arrAt_eq_of_covers 4
    (fun i : S4x2x2x192x192.Idx => C6 (f (i 0)) g b (i 1) (i 2) (i 3) (i 4))
    (by decide +kernel) fun t hf y => ?_) i
  blk_simp
  rw [after5_4]
  refine (out5_4_read _ _ _ _ (f t.val) g b ?_ ?_ ?_ _).trans ?_
  · intro j
    refine (hx _).trans ?_
    blk_simp [index5_0]
  · intro j
    refine (hw _).trans ?_
    blk_simp [index5_2]
  · intro j
    exact hb _
  blk_simp [index5_4]

/-- The second output array: at the corner of each image's tile the sum of its squared differences, else zero. -/
theorem arr5_loss (c : Dev nD) (f : ℕ → ℕ → ℕ → ℕ → EReal) (g : ℕ → ℕ → ℕ → EReal) (b : EReal)
    (xs : ℕ → ℕ → ℕ → ℕ → ℕ → EReal)
    (hx : ∀ i : S4x194x194x64.Idx, V c main_v269 i = f (i 0) (i 1) (i 2) (i 3))
    (hs : ∀ i : S4x2x2x192x192.Idx, V c main_v272 i = xs (i 0) (i 1) (i 2) (i 3) (i 4))
    (hw : ∀ i : S4x4x64.Idx, V c main_v191 i = g (i 0) (i 1) (i 2))
    (hb : ∀ i : S1x1.Idx, V c main_v273 i = b) (i : S4x8x128.Idx) :
    (dat5 V c).arrAt 5 cfg5.N i = corner (rlimage (C6 (f (i 0)) g b) (xs (i 0))) (i 1) (i 2) := by
  refine congrFun ((dat5 V c).arrAt_eq_of_covers 5
    (fun i : S4x8x128.Idx => corner (rlimage (C6 (f (i 0)) g b) (xs (i 0))) (i 1) (i 2))
    (by decide +kernel) fun t hf y => ?_) i
  blk_simp
  rw [after5_5]
  refine (out5_5_read _ _ _ _ (f t.val) g b (xs t.val) ?_ ?_ ?_ ?_ _).trans ?_
  · intro j
    refine (hx _).trans ?_
    blk_simp [index5_0]
  · intro j
    refine (hs _).trans ?_
    blk_simp [index5_1]
  · intro j
    refine (hw _).trans ?_
    blk_simp [index5_2]
  · intro j
    exact hb _
  blk_simp [index5_5]

end Cert.KernelIdeal.Gen
-- ==== Proof.HostWeights.lean ====
/-
  The kernel's host operations on weights, read at an index.
-/
module

public import proofs.«01_k».proof.Proof.Gen.KernelIdeal.Launch
public import proofs.«01_k».proof.Proof.Common
public import proofs.«01_k».proof.Proof.Spec
public import Idealize.ShloMosaic.Lib.Pointwise
public import Idealize.ShloMosaic.Lib.StableHlo.RunRead

@[expose] public section

set_option maxRecDepth 16384

noncomputable section

namespace Cert.KernelIdeal.Gen

open Idealize.ShloMosaic Idealize.ShloMosaic.TcCoe Idealize.ShloMosaic.Tactic Cert.Vq

variable (W : Valuation τ sig (Elt Ideal))

theorem host_v13 (b : ℕ → EReal) (hb : ∀ i : S64.Idx, W (Proc.devRef .tc main_arg2) i = b (i 0)) (i : S1x512.Idx) :
    StableHlo.after hostOps0_2 W (Proc.devRef .tc main_v13) i = b (i 1 % 64) := by
  after_reads_simp
  idx_vars i
  pointwise [hb]

theorem host_v74 (w : ℕ → ℕ → ℕ → ℕ → EReal)
    (hw : ∀ i : S128x64x4x4.Idx, W (Proc.devRef .tc main_arg3) i = w (i 0) (i 1) (i 2) (i 3)) (i : S2x2x64x512.Idx) :
    StableHlo.after hostOps0_2 W (Proc.devRef .tc main_v74) i
      = w (i 3 % 128) (i 2) (2 * (i 3 / 256) + i 0) (2 * (i 3 / 128 % 2) + i 1) := by
  after_reads_simp
  idx_vars i
  pointwise [hw]
  after_reads_simp
  pointwise [hw]
  after_reads_simp
  pointwise [hw]
  split_ifs <;> refine congr4 ?_ ?_ ?_ ?_ <;> omega

theorem host_v108 (w : ℕ → ℕ → ℕ → ℕ → EReal)
    (hw : ∀ i : S128x128x3x3.Idx, W (Proc.devRef .tc main_arg5) i = w (i 0) (i 1) (i 2) (i 3)) (i : S3x128x384.Idx) :
    StableHlo.after hostOps0_2 W (Proc.devRef .tc main_v108) i = w (i 2 % 128) (i 1) (i 0) (i 2 / 128) := by
  after_reads_simp
  idx_vars i
  pointwise [hw]
  after_reads_simp
  pointwise [hw]
  after_reads_simp
  pointwise [hw]
  split_ifs <;> refine congr4 ?_ ?_ ?_ ?_ <;> omega

theorem host_v142 (w : ℕ → ℕ → ℕ → ℕ → EReal)
    (hw : ∀ i : S128x128x3x3.Idx, W (Proc.devRef .tc main_arg8) i = w (i 0) (i 1) (i 2) (i 3)) (i : S3x128x384.Idx) :
    StableHlo.after hostOps0_2 W (Proc.devRef .tc main_v142) i = w (i 2 % 128) (i 1) (i 0) (i 2 / 128) := by
  after_reads_simp
  idx_vars i
  pointwise [hw]
  after_reads_simp
  pointwise [hw]
  after_reads_simp
  pointwise [hw]
  split_ifs <;> refine congr4 ?_ ?_ ?_ ?_ <;> omega

theorem host_v2 (w : ℕ → ℕ → ℕ → ℕ → EReal)
    (hw : ∀ i : S64x1x4x4.Idx, W (Proc.devRef .tc main_arg1) i = w (i 0) (i 1) (i 2) (i 3)) (i : S16x64.Idx) :
    StableHlo.after hostOps0 W (Proc.devRef .tc main_v2) i = w (i 1) 0 (i 0 / 4) (i 0 % 4) := by
  after_reads_simp
  idx_vars i
  pointwise [hw]

/-- The identity matrix. -/
def eye (a b : ℕ) : EReal := if a = b then 1 else 0

theorem host_v8 (i : S8x8.Idx) :
    StableHlo.after hostOps0 W (Proc.devRef .tc main_v8) i = eye (i 0) (i 1) := by
  after_reads_simp
  idx_vars i
  pointwise
  have h := cmpi_eq_ofNat i0.val i1.val (by omega) (by omega)
  simp only [IntOp.addi, BitVec.add_zero, h]
  unfold eye
  by_cases e : i0.val = i1.val
  · rw [if_pos e, decide_eq_true e]
    show ((((1#1 : BitVec 1).toNat : ℕ) : ℝ) : EReal) = 1
    simp
  · rw [if_neg e, decide_eq_false e]
    show ((((0#1 : BitVec 1).toNat : ℕ) : ℝ) : EReal) = 0
    simp

theorem host_v9 (e w : ℕ → ℕ → EReal) (he : ∀ i : S8x8.Idx, W (Proc.devRef .tc main_v8) i = e (i 0) (i 1))
    (hw : ∀ i : S16x64.Idx, W (Proc.devRef .tc main_v2) i = w (i 0) (i 1)) (i : S128x512.Idx) :
    StableHlo.after hostOps0_1 W (Proc.devRef .tc main_v9) i = e (i 0 / 16) (i 1 / 64) * w (i 0 % 16) (i 1 % 64) := by
  after_reads_simp
  simp -implicitDefEqProofs only [StableHlo.TRef.toBuf, StableHlo.TRef.ofBuf, cast_cast, cast_eq]
  idx_vars i
  pointwise [he, hw]

theorem host_v143 (w : ℕ → ℕ → ℕ → ℕ → EReal)
    (hw : ∀ i : S128x64x4x4.Idx, W (Proc.devRef .tc main_arg10) i = w (i 0) (i 1) (i 2) (i 3)) (i : S128x64x4x4.Idx) :
    StableHlo.after hostOps0_3 W (Proc.devRef .tc main_v143) i = w (i 0) (i 1) (3 - i 2) (3 - i 3) := by
  after_reads_simp
  simp -implicitDefEqProofs only [StableHlo.TRef.toBuf, StableHlo.TRef.ofBuf, cast_cast, cast_eq]
  idx_vars i
  pointwise [hw]
  simp only [List.mem_cons, List.not_mem_nil, Fin.rev, Fin.isValue]
  refine congr4 ?_ ?_ ?_ ?_ <;> simp <;> omega

theorem host_v188 (w : ℕ → ℕ → ℕ → ℕ → EReal)
    (hw : ∀ i : S128x64x4x4.Idx, W (Proc.devRef .tc main_v143) i = w (i 0) (i 1) (i 2) (i 3)) (i : S2x2x128x256.Idx) :
    StableHlo.after hostOps0_4 W (Proc.devRef .tc main_v188) i
      = w (i 2) (i 3 % 64) (2 * (i 3 / 128) + i 0) (2 * (i 3 / 64 % 2) + i 1) := by
  after_reads_simp
  idx_vars i
  pointwise [hw]
  after_reads_simp
  pointwise [hw]
  after_reads_simp
  pointwise [hw]
  split_ifs <;> refine congr4 ?_ ?_ ?_ ?_ <;> omega

theorem host_v189 (w : ℕ → ℕ → ℕ → ℕ → EReal)
    (hw : ∀ i : S64x1x4x4.Idx, W (Proc.devRef .tc main_arg12) i = w (i 0) (i 1) (i 2) (i 3)) (i : S64x1x4x4.Idx) :
    StableHlo.after hostOps0_5 W (Proc.devRef .tc main_v189) i = w (i 0) (i 1) (3 - i 2) (3 - i 3) := by
  after_reads_simp
  simp -implicitDefEqProofs only [StableHlo.TRef.toBuf, StableHlo.TRef.ofBuf, cast_cast, cast_eq]
  idx_vars i
  pointwise [hw]
  simp only [List.mem_cons, List.not_mem_nil, Fin.rev, Fin.isValue]
  refine congr4 ?_ ?_ ?_ ?_ <;> simp <;> omega

theorem host_v191 (w : ℕ → ℕ → ℕ → ℕ → EReal)
    (hw : ∀ i : S64x1x4x4.Idx, W (Proc.devRef .tc main_v189) i = w (i 0) (i 1) (i 2) (i 3)) (i : S4x4x64.Idx) :
    StableHlo.after hostOps0_6 W (Proc.devRef .tc main_v191) i = w (i 2) 0 (i 0) (i 1) := by
  after_reads_simp
  idx_vars i
  pointwise [hw]

theorem host_v194 (e : ℕ → ℕ → EReal)
    (he : ∀ i : S512x128.Idx, W (Proc.devRef .tc main_arg7) i = e (i 0) (i 1)) (i : S1x512.Idx) :
    StableHlo.after hostOps0_6 W (Proc.devRef .tc main_v194) i = ∑ c : Fin 128, e (i 1) c * e (i 1) c := by
  after_reads_simp
  idx_vars i
  pointwise [he]

theorem host_v195 (x : ℕ → ℕ → ℕ → ℕ → EReal)
    (hx : ∀ i : S4x1x384x384.Idx, W (Proc.devRef .tc main_arg0) i = x (i 0) (i 1) (i 2) (i 3)) (i : S4x384x384.Idx) :
    StableHlo.after hostOps0_6 W (Proc.devRef .tc main_v195) i = x (i 0) 0 (i 1) (i 2) := by
  after_reads_simp
  idx_vars i
  pointwise [hx]

theorem host_v196 (x : ℕ → ℕ → ℕ → EReal)
    (hx : ∀ i : S4x384x384.Idx, W (Proc.devRef .tc main_v195) i = x (i 0) (i 1) (i 2))
    (hz : ∀ i, W (Proc.devRef .tc main_c_0) i = 0#32) (i : S4x386x386.Idx) :
    StableHlo.after hostOps0_7 W (Proc.devRef .tc main_v196) i = placed 1 384 (x (i 0)) (i 1) (i 2) := by
  after_reads_simp
  simp -implicitDefEqProofs only [StableHlo.TRef.toBuf, StableHlo.TRef.ofBuf, cast_cast, cast_eq]
  idx_vars i
  pointwise [hx, hz, placed]
  exact dite_congr rfl (fun _ => rfl) fun _ => zero_word

/-- Sixteen images stacked along a last axis, read after the stack is reshaped to rows of 128. -/
theorem stack_sixteen (x0 x1 x2 x3 x4 x5 x6 x7 x8 x9 x10 x11 x12 x13 x14 x15 : Vec Ideal S4x192x192x1 .f32) (h1' h2') (G : ℕ → ℕ → ℕ → ℕ → EReal)
    (h0 : ∀ i, x0 i = G 0 (i 0) (i 1) (i 2)) (h1 : ∀ i, x1 i = G 1 (i 0) (i 1) (i 2)) (h2 : ∀ i, x2 i = G 2 (i 0) (i 1) (i 2)) (h3 : ∀ i, x3 i = G 3 (i 0) (i 1) (i 2)) (h4 : ∀ i, x4 i = G 4 (i 0) (i 1) (i 2)) (h5 : ∀ i, x5 i = G 5 (i 0) (i 1) (i 2)) (h6 : ∀ i, x6 i = G 6 (i 0) (i 1) (i 2)) (h7 : ∀ i, x7 i = G 7 (i 0) (i 1) (i 2)) (h8 : ∀ i, x8 i = G 8 (i 0) (i 1) (i 2)) (h9 : ∀ i, x9 i = G 9 (i 0) (i 1) (i 2)) (h10 : ∀ i, x10 i = G 10 (i 0) (i 1) (i 2)) (h11 : ∀ i, x11 i = G 11 (i 0) (i 1) (i 2)) (h12 : ∀ i, x12 i = G 12 (i 0) (i 1) (i 2)) (h13 : ∀ i, x13 i = G 13 (i 0) (i 1) (i 2)) (h14 : ∀ i, x14 i = G 14 (i 0) (i 1) (i 2)) (h15 : ∀ i, x15 i = G 15 (i 0) (i 1) (i 2))
    (i : S4x4608x128.Idx) :
    shapeCast S4x4608x128 (concatenate S4x192x192x16 3 [⟨S4x192x192x1, x0⟩, ⟨S4x192x192x1, x1⟩, ⟨S4x192x192x1, x2⟩, ⟨S4x192x192x1, x3⟩, ⟨S4x192x192x1, x4⟩, ⟨S4x192x192x1, x5⟩, ⟨S4x192x192x1, x6⟩, ⟨S4x192x192x1, x7⟩, ⟨S4x192x192x1, x8⟩, ⟨S4x192x192x1, x9⟩, ⟨S4x192x192x1, x10⟩, ⟨S4x192x192x1, x11⟩, ⟨S4x192x192x1, x12⟩, ⟨S4x192x192x1, x13⟩, ⟨S4x192x192x1, x14⟩, ⟨S4x192x192x1, x15⟩] h1') h2' i
      = G (i 2 % 16) (i 0) ((i 1 * 8 + i 2 / 16) / 192) ((i 1 * 8 + i 2 / 16) % 192) := by
  idx_vars i
  pointwise [h0, h1, h2, h3, h4, h5, h6, h7, h8, h9, h10, h11, h12, h13, h14, h15]
  have d0 : (i1.val * 8 + i2.val / 16) / 192 = i1.val / 24 := by omega
  have d1 : (i1.val * 8 + i2.val / 16) % 192 = i1.val % 24 * 8 + i2.val / 16 := by omega
  have d2 : i2.val % 16 < 16 := by omega
  rw [d0, d1]
  generalize i2.val % 16 = t at d2 ⊢
  interval_cases t <;> rfl

theorem host_v248 (x : ℕ → ℕ → ℕ → EReal)
    (hx : ∀ i : S4x386x386.Idx, W (Proc.devRef .tc main_v196) i = x (i 0) (i 1) (i 2)) (i : S4x4608x128.Idx) :
    StableHlo.after hostOps0_8 W (Proc.devRef .tc main_v248) i
      = x (i 0) (2 * ((i 1 * 8 + i 2 / 16) / 192) + i 2 % 16 / 4) (2 * ((i 1 * 8 + i 2 / 16) % 192) + i 2 % 16 % 4) := by
  after_reads_simp
  refine (stack_sixteen _ _ _ _ _ _ _ _ _ _ _ _ _ _ _ _ _ _ (fun t b r q => x b (2 * r + t / 4) (2 * q + t % 4))
    ?_ ?_ ?_ ?_ ?_ ?_ ?_ ?_ ?_ ?_ ?_ ?_ ?_ ?_ ?_ ?_ i)
  all_goals
    intro j
    after_reads_simp
    idx_vars j
    pointwise [hx]
    after_reads_simp
    pointwise [hx]
    try refine congr3 ?_ ?_ ?_ <;> omega

end Cert.KernelIdeal.Gen
-- ==== Proof.Model.lean ====
/-
  The forward pass of the network, written as the numbers each stage holds: two strided convolutions and a plain one, the
  nearest codebook row of every pixel, a convolution, two transposed convolutions, and the two losses.
-/
module

public import proofs.«01_k».proof.Proof.Spec
public import proofs.«01_k».proof.Proof.Nearest

@[expose] public section

noncomputable section

namespace Cert.Vq

open Idealize.ShloMosaic

/-- The network's inputs, each as the number it holds at an index. -/
structure Net where
  x : ℕ → ℕ → ℕ → ℕ → EReal
  w1 : ℕ → ℕ → ℕ → ℕ → EReal
  b1 : ℕ → EReal
  w2 : ℕ → ℕ → ℕ → ℕ → EReal
  b2 : ℕ → EReal
  w3 : ℕ → ℕ → ℕ → ℕ → EReal
  b3 : ℕ → EReal
  e : ℕ → ℕ → EReal
  w4 : ℕ → ℕ → ℕ → ℕ → EReal
  b4 : ℕ → EReal
  w5 : ℕ → ℕ → ℕ → ℕ → EReal
  b5 : ℕ → EReal
  w6 : ℕ → ℕ → ℕ → ℕ → EReal
  b6 : ℕ → EReal

variable (N : Net)

/-- The first encoder stage: image, channel, row, column. -/
def H1 (b c y x : ℕ) : EReal := max (conv 2 4 1 (fun c => placed 1 384 (N.x b c)) N.w1 N.b1 c y x) 0

/-- The second encoder stage. -/
def H2 (b c y x : ℕ) : EReal := max (conv 2 4 64 (fun c => placed 1 192 (H1 N b c)) N.w2 N.b2 c y x) 0

/-- The encoder's output. -/
def ZE (b c y x : ℕ) : EReal := conv 1 3 128 (fun c => placed 1 96 (H2 N b c)) N.w3 N.b3 c y x

/-- The squared length of a codebook row. -/
def normE (k : ℕ) : EReal := ∑ c : Fin 128, N.e k c * N.e k c

/-- The quantised encoder output: the codebook row nearest to each pixel. -/
def ZQ (b c y x : ℕ) : EReal := N.e (near (fun c => ZE N b c y x) (normE N)) c

/-- The first decoder stage. -/
def D1 (b c y x : ℕ) : EReal := conv 1 3 128 (fun c => placed 1 96 (ZQ N b c)) N.w4 N.b4 c y x

/-- The second decoder stage, a transposed convolution. -/
def D2 (b c y x : ℕ) : EReal :=
  max (conv 1 4 128 (fun c => spread 2 96 (D1 N b c)) (fun o c i j => N.w5 c o (3 - i) (3 - j)) N.b5 c y x) 0

/-- The reconstruction. -/
def REC (b y x : ℕ) : EReal :=
  conv 1 4 64 (fun c => spread 2 192 (D2 N b c)) (fun o c i j => N.w6 c o (3 - i) (3 - j)) N.b6 0 y x

/-- The summed squared error of the reconstruction. -/
def sumR : EReal :=
  ∑ b : Fin 4, ∑ y : Fin 384, ∑ x : Fin 384, (REC N b y x - N.x b 0 y x) * (REC N b y x - N.x b 0 y x)

/-- The summed squared distance of the encoder's output from its codebook rows. -/
def sumQ : EReal :=
  ∑ b : Fin 4, ∑ y : Fin 96, ∑ x : Fin 96, ∑ c : Fin 128, (ZQ N b c y x - ZE N b c y x) * (ZQ N b c y x - ZE N b c y x)

/-- The numbers of elements the two sums are divided by. -/
def countR : EReal := Ideal.ofBits .f32 0x49100000#32
def countQ : EReal := Ideal.ofBits .f32 0x4A900000#32

end Cert.Vq
-- ==== Proof.KernelMath.lean ====
/-
  What the kernel's launches compute, stage by stage, is what the model's stages are: sums over the kernel's tilings,
  phases and block matrices re-indexed as the model's convolutions.
-/
module

public import proofs.«01_k».proof.Proof.Region0
public import proofs.«01_k».proof.Proof.Region1
public import proofs.«01_k».proof.Proof.Region2
public import proofs.«01_k».proof.Proof.Region4
public import proofs.«01_k».proof.Proof.Region5
public import proofs.«01_k».proof.Proof.HostWeights
public import proofs.«01_k».proof.Proof.Model

@[expose] public section

noncomputable section

namespace Cert.KernelIdeal.Gen

open Idealize.ShloMosaic Cert.Vq

/-- A sum over `m * n` places is a sum over `m` blocks of `n`. -/
theorem sum_blocks (m n : ℕ) (F : ℕ → EReal) : ∑ k : Fin (m * n), F k = ∑ a : Fin m, ∑ t : Fin n, F (n * a + t) := by
  rw [← finProdFinEquiv.sum_comp (fun k : Fin (m * n) => F k), Fintype.sum_prod_type]
  refine Finset.sum_congr rfl fun a _ => Finset.sum_congr rfl fun t _ => congrArg F ?_
  show t.val + n * a.val = _
  omega

/-- The sixteen taps of a 4 by 4 filter by phase and step are its taps by row and column. -/
theorem sum_taps (F : ℕ → ℕ → EReal) :
    ∑ p : Fin 2, ∑ q : Fin 2, ∑ i : Fin 2, ∑ j : Fin 2, F (2 * i + p) (2 * j + q) = ∑ i : Fin 4, ∑ j : Fin 4, F i j := by
  simp [Fin.sum_univ_four, Fin.sum_univ_two]
  abel

variable (N : Net)

theorem C1_eq (b r q : ℕ) (hq : q < 512) :
    C1 (fun r k => placed 1 384 (N.x b 0) (2 * ((r * 8 + k / 16) / 192) + k % 16 / 4) (2 * ((r * 8 + k / 16) % 192) + k % 16 % 4))
      (fun k q => eye (k / 16) (q / 64) * N.w1 (q % 64) 0 (k % 16 / 4) (k % 16 % 4)) (fun q => N.b1 (q % 64)) r q
      = H1 N b (q % 64) ((8 * r + q / 64) / 192) ((8 * r + q / 64) % 192) := by
  unfold C1 H1 conv
  congr 2
  rw [sum_blocks 8 16 (fun k => placed 1 384 (N.x b 0) (2 * ((r * 8 + k / 16) / 192) + k % 16 / 4) (2 * ((r * 8 + k / 16) % 192) + k % 16 % 4) * (eye (k / 16) (q / 64) * N.w1 (q % 64) 0 (k % 16 / 4) (k % 16 % 4)))]
  have hb : q / 64 < 8 := by omega
  rw [Finset.sum_eq_single (⟨q / 64, hb⟩ : Fin 8)]
  · rw [sum_blocks 4 4 (fun t => placed 1 384 (N.x b 0) (2 * ((r * 8 + (16 * (q / 64) + t) / 16) / 192) + (16 * (q / 64) + t) % 16 / 4) (2 * ((r * 8 + (16 * (q / 64) + t) / 16) % 192) + (16 * (q / 64) + t) % 16 % 4) * (eye ((16 * (q / 64) + t) / 16) (q / 64) * N.w1 (q % 64) 0 ((16 * (q / 64) + t) % 16 / 4) ((16 * (q / 64) + t) % 16 % 4)))]
    refine Finset.sum_congr rfl fun i _ => Finset.sum_congr rfl fun j _ => ?_
    have e0 : (16 * (q / 64) + (4 * i.val + j.val)) / 16 = q / 64 := by omega
    have e1 : (16 * (q / 64) + (4 * i.val + j.val)) % 16 / 4 = i.val := by omega
    have e2 : (16 * (q / 64) + (4 * i.val + j.val)) % 16 % 4 = j.val := by omega
    have e3 : r * 8 + q / 64 = 8 * r + q / 64 := by omega
    rw [e0, e1, e2, e3]
    simp [eye]
  · intro a _ ha
    refine Finset.sum_eq_zero fun t _ => ?_
    have e0 : (16 * a.val + t.val) / 16 = a.val := by omega
    have e1 : a.val ≠ q / 64 := fun h => ha (Fin.ext h)
    rw [e0]
    simp [eye, e1]
  · simp

theorem C2_eq (b o y x : ℕ) (ho : o < 128) :
    C2 (fun p q r s c => placed 1 192 (H1 N b c) (2 * r + p) (2 * s + q))
      (fun p q c t => N.w2 (t % 128) c (2 * (t / 256) + p) (2 * (t / 128 % 2) + q)) N.b2 y x o = H2 N b o y x := by
  unfold C2 H2 conv
  congr 2
  rw [← sum_taps (fun i j => ∑ c : Fin 64, placed 1 192 (H1 N b c) (2 * y + i) (2 * x + j) * N.w2 o c i j)]
  refine Finset.sum_congr rfl fun p _ => Finset.sum_congr rfl fun q _ => Finset.sum_congr rfl fun i _ =>
    Finset.sum_congr rfl fun j _ => Finset.sum_congr rfl fun c _ => ?_
  have e0 : ((i.val * 2 + j.val) * 128 + o) % 128 = o := by omega
  have e1 : ((i.val * 2 + j.val) * 128 + o) / 256 = i.val := by omega
  have e2 : ((i.val * 2 + j.val) * 128 + o) / 128 % 2 = j.val := by omega
  have e3 : 2 * (y + i.val) + p.val = 2 * y + (2 * i.val + p.val) := by omega
  have e4 : 2 * (x + j.val) + q.val = 2 * x + (2 * j.val + q.val) := by omega
  simp only [e0, e1, e2, e3, e4]

theorem C3_eq (f : ℕ → ℕ → ℕ → EReal) (w : ℕ → ℕ → ℕ → ℕ → EReal) (b : ℕ → EReal) (o y x : ℕ) (ho : o < 128) :
    C3 (fun y x c => f c y x) (fun i c t => w (t % 128) c i (t / 128)) b y x o = conv 1 3 128 f w b o y x := by
  unfold C3 conv
  congr 1
  refine Finset.sum_congr rfl fun i _ => Finset.sum_congr rfl fun j _ => Finset.sum_congr rfl fun c _ => ?_
  have e0 : (128 * j.val + o) % 128 = o := by omega
  have e1 : (128 * j.val + o) / 128 = j.val := by omega
  simp only [e0, e1, Nat.one_mul]

/-- A spread image at a tap of a transposed convolution: the tap's phase must be the output's, and then it is the image in
    a frame of one. -/
theorem spread_tap (n : ℕ) (f : ℕ → ℕ → EReal) (y p i x q j : ℕ) (hp : p < 2) (hq : q < 2) :
    spread 2 n f (2 * y + p + i) (2 * x + q + j)
      = if i % 2 = p ∧ j % 2 = q then placed 1 n f (y + p + i / 2) (x + q + j / 2) else 0 := by
  unfold spread placed
  by_cases h : i % 2 = p ∧ j % 2 = q
  · rw [if_pos h]
    have e0 : (2 * y + p + i - 2) / 2 = y + p + i / 2 - 1 := by omega
    have e1 : (2 * x + q + j - 2) / 2 = x + q + j / 2 - 1 := by omega
    rw [e0, e1]
    refine if_congr ?_ rfl rfl
    omega
  · rw [if_neg h, if_neg]
    omega

/-- The taps of a transposed convolution that meet the image are those of the output's phase. -/
theorem sum_phase (C n : ℕ) (f : ℕ → ℕ → ℕ → EReal) (w : ℕ → ℕ → ℕ → EReal) (y x p q : ℕ) (hp : p < 2) (hq : q < 2) :
    ∑ i : Fin 4, ∑ j : Fin 4, ∑ c : Fin C, spread 2 n (f c) (2 * y + p + i) (2 * x + q + j) * w c i j
      = ∑ i : Fin 2, ∑ j : Fin 2, ∑ c : Fin C, placed 1 n (f c) (y + p + i) (x + q + j) * w c (2 * i + p) (2 * j + q) := by
  simp only [spread_tap _ _ _ _ _ _ _ _ hp hq]
  obtain rfl | rfl : p = 0 ∨ p = 1 := by omega
  all_goals
    obtain rfl | rfl : q = 0 ∨ q = 1 := by omega
    all_goals simp [Fin.sum_univ_four, Fin.sum_univ_two]

theorem C5_eq (b o y x p q : ℕ) (ho : o < 64) (hp : p < 2) (hq : q < 2) :
    C5 (fun y x c => placed 1 96 (D1 N b c) y x)
      (fun p q c t => N.w5 c (t % 64) (3 - (2 * (t / 128) + p)) (3 - (2 * (t / 64 % 2) + q))) N.b5 p q y x o
      = D2 N b o (2 * y + p) (2 * x + q) := by
  unfold C5 D2 conv
  congr 2
  simp only [Nat.one_mul]
  rw [sum_phase 128 96 (D1 N b) (fun c i j => N.w5 c o (3 - i) (3 - j)) y x p q hp hq]
  refine Finset.sum_congr rfl fun i _ => Finset.sum_congr rfl fun j _ => Finset.sum_congr rfl fun c _ => ?_
  have e0 : ((i.val * 2 + j.val) * 64 + o) % 64 = o := by omega
  have e1 : ((i.val * 2 + j.val) * 64 + o) / 128 = i.val := by omega
  have e2 : ((i.val * 2 + j.val) * 64 + o) / 64 % 2 = j.val := by omega
  simp only [e0, e1, e2]

theorem C6_eq (b y x p q : ℕ) (hp : p < 2) (hq : q < 2) :
    C6 (fun y x c => placed 1 192 (D2 N b c) y x) (fun i j c => N.w6 c 0 (3 - i) (3 - j)) (N.b6 0) p q y x
      = REC N b (2 * y + p) (2 * x + q) := by
  unfold C6 REC conv
  congr 1
  simp only [Nat.one_mul]
  rw [sum_phase 64 192 (D2 N b) (fun c i j => N.w6 c 0 (3 - i) (3 - j)) y x p q hp hq]
  refine Finset.sum_congr rfl fun i _ => Finset.sum_congr rfl fun j _ => Finset.sum_congr rfl fun c _ => ?_
  have e0 : p + 2 * i.val = 2 * i.val + p := by omega
  have e1 : q + 2 * j.val = 2 * j.val + q := by omega
  simp only [e0, e1]

/-- A tile that holds a number at its corner sums to it. -/
theorem sum_corner (T : EReal) : ∑ y : Fin 8, ∑ x : Fin 128, corner T y x = T := by
  rw [Finset.sum_eq_single (0 : Fin 8)]
  · rw [Finset.sum_eq_single (0 : Fin 128)]
    · simp [corner]
    · intro a _ ha
      simp [corner, Fin.val_eq_zero_iff, ha]
    · simp
  · intro a _ ha
    refine Finset.sum_eq_zero fun t _ => ?_
    simp [corner, Fin.val_eq_zero_iff, ha]
  · simp

/-- Four bands of rows are all the rows. -/
theorem sum_bands (m : ℕ) (F : ℕ → EReal) :
    ∑ y : Fin (4 * m), F y = (∑ y : Fin m, F y) + (∑ y : Fin m, F (m + y)) + (∑ y : Fin m, F (2 * m + y)) + ∑ y : Fin m, F (3 * m + y) := by
  rw [sum_blocks, Fin.sum_univ_four]
  simp [Nat.mul_comm m]

theorem vqimage_eq (b : ℕ) :
    vqimage N.e (normE N) (fun y x c => ZE N b c y x)
      = ∑ y : Fin 96, ∑ x : Fin 96, ∑ c : Fin 128, (ZQ N b c y x - ZE N b c y x) * (ZQ N b c y x - ZE N b c y x) := by
  have h (r : ℕ) : vqband N.e (normE N) (fun y x c => ZE N b c y x) r
      = ∑ y : Fin 24, ∑ x : Fin 96, ∑ c : Fin 128, (ZQ N b c (r + y) x - ZE N b c (r + y) x) * (ZQ N b c (r + y) x - ZE N b c (r + y) x) := by
    unfold vqband
    rw [sum_blocks 24 96 (fun p => ∑ o : Fin 128, (N.e (near (fun c => ZE N b c (r + p / 96) (p % 96)) (normE N)) o - ZE N b o (r + p / 96) (p % 96))
      * (N.e (near (fun c => ZE N b c (r + p / 96) (p % 96)) (normE N)) o - ZE N b o (r + p / 96) (p % 96)))]
    refine Finset.sum_congr rfl fun y _ => Finset.sum_congr rfl fun x _ => Finset.sum_congr rfl fun c _ => ?_
    have e0 : (96 * y.val + x.val) / 96 = y.val := by omega
    have e1 : (96 * y.val + x.val) % 96 = x.val := by omega
    rw [e0, e1]
    rfl
  unfold vqimage
  rw [h, h, h, h]
  refine Eq.trans ?_ (sum_bands 24 (fun y => ∑ x : Fin 96, ∑ c : Fin 128, (ZQ N b c y x - ZE N b c y x) * (ZQ N b c y x - ZE N b c y x))).symm
  simp

theorem rlimage_eq (R X : ℕ → ℕ → EReal) :
    rlimage (fun p q y x => R (2 * y + p) (2 * x + q)) (fun p q y x => X (2 * y + p) (2 * x + q))
      = ∑ y : Fin 384, ∑ x : Fin 384, (R y x - X y x) * (R y x - X y x) := by
  have h (p q : ℕ) (S : EReal) : rlphase (fun p q y x => R (2 * y + p) (2 * x + q)) (fun p q y x => X (2 * y + p) (2 * x + q)) p q S
      = S + ∑ y : Fin 192, ∑ x : Fin 192, (R (2 * y + p) (2 * x + q) - X (2 * y + p) (2 * x + q)) * (R (2 * y + p) (2 * x + q) - X (2 * y + p) (2 * x + q)) := by
    unfold rlphase rlband
    rw [sum_bands 48 (fun y => ∑ x : Fin 192, (R (2 * y + p) (2 * x + q) - X (2 * y + p) (2 * x + q)) * (R (2 * y + p) (2 * x + q) - X (2 * y + p) (2 * x + q)))]
    simp [add_assoc]
  unfold rlimage
  rw [h, h, h, h]
  rw [sum_blocks 192 2 (fun y => ∑ x : Fin 384, (R y x - X y x) * (R y x - X y x))]
  have h2 (y : ℕ) : ∑ x : Fin 384, (R y x - X y x) * (R y x - X y x)
      = ∑ x : Fin 192, ∑ q : Fin 2, (R y (2 * x + q) - X y (2 * x + q)) * (R y (2 * x + q) - X y (2 * x + q)) :=
    sum_blocks 192 2 (fun x => (R y x - X y x) * (R y x - X y x))
  simp only [h2, Fin.sum_univ_two, Finset.sum_add_distrib]
  simp [add_assoc]
  congr 1
  exact add_left_comm _ _ _

theorem vqimage_congr (e : ℕ → ℕ → EReal) (n : ℕ → EReal) (z z' : ℕ → ℕ → ℕ → EReal)
    (h : ∀ y x o, o < 128 → z y x o = z' y x o) : vqimage e n z = vqimage e n z' := by
  have hn (y x : ℕ) : near (z y x) n = near (z' y x) n := by
    unfold near
    refine congrArg nearest (funext fun k => ?_)
    congr 1
    exact Finset.sum_congr rfl fun o _ => by rw [h _ _ o o.isLt]
  have hb (r : ℕ) : vqband e n z r = vqband e n z' r := by
    unfold vqband
    refine Finset.sum_congr rfl fun p _ => Finset.sum_congr rfl fun o _ => ?_
    rw [hn, h _ _ o o.isLt]
  unfold vqimage
  rw [hb, hb, hb, hb]

theorem rlimage_congr (R R' X : ℕ → ℕ → ℕ → ℕ → EReal) (h : ∀ p q y x, p < 2 → q < 2 → R p q y x = R' p q y x) :
    rlimage R X = rlimage R' X := by
  simp only [rlimage, rlphase, rlband, h _ _ _ _ Nat.zero_lt_two Nat.zero_lt_two, h _ _ _ _ Nat.one_lt_two Nat.zero_lt_two,
    h _ _ _ _ Nat.zero_lt_two Nat.one_lt_two, h _ _ _ _ Nat.one_lt_two Nat.one_lt_two]

end Cert.KernelIdeal.Gen
-- ==== Proof.Region3.lean ====
/-
  The decoder's first convolution's launch: what its output array holds, entry by entry, from the arrays it is entered
  with.
-/
module

public import proofs.«01_k».proof.Proof.Gen.KernelIdeal.Frame.Region3
public import proofs.«01_k».proof.Proof.Spec
public import proofs.«01_k».proof.Proof.Common

@[expose] public section
set_option maxRecDepth 16384
noncomputable section
namespace Cert.KernelIdeal.Gen
open Idealize.ShloMosaic Idealize.ShloMosaic.TcCoe
open Idealize.ShloMosaic.Pipeline (Dat Cfg Window)
open Cert.Vq

def band3 (z0 z1 z2 : Vec Ideal S1x24x104x128 .f32) (w0 w1 w2 : Vec Ideal S1x128x384 .f32) (b : Vec Ideal S1x128 .f32) :=
  k3_pay4 (k3_pay2 z0 w0 z1 w1) (k3_pay3 z2 w2) b

theorem band3_a (z0 z1 z2 w0 w1 w2 b) : k3_pay1 (k3_pay12 z0 w0 z1 w1) (k3_pay13 z2 w2) b = band3 z0 z1 z2 w0 w1 w2 b := rfl
theorem band3_b (z0 z1 z2 w0 w1 w2 b) : k3_pay11 (k3_pay9 z0 w0) (k3_pay10 z0 w0) z1 w1 z2 w2 b = band3 z0 z1 z2 w0 w1 w2 b := rfl
theorem band3_c (z0 z1 z2 w0 w1 w2 b) : k3_pay8 (k3_pay5 z0 w0) (k3_pay6 z1 w1) (k3_pay7 z1 w1) z2 w2 b = band3 z0 z1 z2 w0 w1 w2 b := rfl

theorem band3_apply (z0 z1 z2 : Vec Ideal S1x24x104x128 .f32) (w0 w1 w2 : Vec Ideal S1x128x384 .f32) (b : Vec Ideal S1x128 .f32)
    (r : ℕ) (f g b') (h0 : ∀ i, z0 i = f (r + i 1) (i 2) (i 3)) (h1 : ∀ i, z1 i = f (r + i 1 + 1) (i 2) (i 3))
    (h2 : ∀ i, z2 i = f (r + i 1 + 2) (i 2) (i 3))
    (g0 : ∀ i, w0 i = g 0 (i 1) (i 2)) (g1 : ∀ i, w1 i = g 1 (i 1) (i 2)) (g2 : ∀ i, w2 i = g 2 (i 1) (i 2))
    (hb : ∀ i, b i = b' (i 1)) (i : S1x24x96x128.Idx) :
   band3 z0 z1 z2 w0 w1 w2 b i = C3 f g b' (r + i 1) (i 2) (i 3) := by
  idx_vars i
  pointwise [band3, k3_pay4, k3_pay3, k3_pay2, h0, h1, h2, g0, g1, g2, hb, C3, Fin.sum_univ_three]
  have e (k : ℕ) (hk : k < 3) : (i1.val * 104 + (k + i2.val)) % 104 = i2.val + k := by omega
  have e0 : (i1.val * 104 + i2.val) % 104 = i2.val := by omega
  rw [e0, e 1 (by omega), e 2 (by omega)]
  simp only [← add_assoc]

theorem out3_read (x0 : Vec Ideal S1x98x104x128 .f32) (x1 : Vec Ideal S3x128x384 .f32) (x2 : Vec Ideal S1x128 .f32)
    (f g b) (hx : ∀ i, x0 i = f (i 1) (i 2) (i 3)) (hw : ∀ i, x1 i = g (i 0) (i 1) (i 2)) (hb : ∀ i, x2 i = b (i 1))
    (i : S1x96x96x128.Idx) : out3_3 x0 x1 x2 i = C3 f g b (i 1) (i 2) (i 3) := by
  unfold out3_3
  rw [band3_a, band3_b, band3_c]
  refine View.canon_apply_of_pieces (Val := Elt Ideal) (fun i : S1x96x96x128.Idx => C3 f g b (i 1) (i 2) (i 3)) _ ?_ i (cover3_3 _ _ _ _ i)
  intro p hp
  have hb' : ∀ j, View.ld x2 r3_6 j = b (j 1) := by intro j; pointwise [hb]
  have hw0 : ∀ j, View.ld x1 r3_1 j = g 0 (j 1) (j 2) := by intro j; pointwise [hw]
  have hw1 : ∀ j, View.ld x1 r3_3 j = g 1 (j 1) (j 2) := by intro j; pointwise [hw]
  have hw2 : ∀ j, View.ld x1 r3_5 j = g 2 (j 1) (j 2) := by intro j; pointwise [hw]
  simp only [List.mem_cons, List.not_mem_nil, or_false] at hp
  rcases hp with rfl | rfl | rfl | rfl <;> intro x <;> dsimp only
  · refine (band3_apply _ _ _ _ _ _ _ 72 f g b ?_ ?_ ?_ hw0 hw1 hw2 hb' x).trans (by simp only [emb_unit_val]; simp)
      <;> intro j <;> pointwise [hx] <;> exact congrArg (f · _ _) (by omega)
  · refine (band3_apply _ _ _ _ _ _ _ 48 f g b ?_ ?_ ?_ hw0 hw1 hw2 hb' x).trans (by simp only [emb_unit_val]; simp)
      <;> intro j <;> pointwise [hx] <;> exact congrArg (f · _ _) (by omega)
  · refine (band3_apply _ _ _ _ _ _ _ 24 f g b ?_ ?_ ?_ hw0 hw1 hw2 hb' x).trans (by simp only [emb_unit_val]; simp)
      <;> intro j <;> pointwise [hx] <;> exact congrArg (f · _ _) (by omega)
  · refine (band3_apply _ _ _ _ _ _ _ 0 f g b ?_ ?_ ?_ hw0 hw1 hw2 hb' x).trans (by simp only [emb_unit_val]; simp)
      <;> intro j <;> pointwise [hx] <;> exact congrArg (f · _ _) (by omega)

variable (V : (c : Dev nD) → (b : Ref sig .tc) → Buf (Elt Ideal) ((c : Thread nD τ).loc b))

theorem index3_0 : ∀ t : Fin cfg3.N, win3_0.index t = ![t.val, 0, 0, 0] := by decide +kernel
theorem index3_1 : ∀ t : Fin cfg3.N, win3_1.index t = ![0, 0, 0] := by decide +kernel
theorem index3_2 : ∀ t : Fin cfg3.N, win3_2.index t = ![0, 0] := by decide +kernel
theorem index3_3 : ∀ t : Fin cfg3.N, win3_3.index t = ![t.val, 0, 0, 0] := by decide +kernel

theorem arr3_read (c : Dev nD) (f : ℕ → ℕ → ℕ → ℕ → EReal) (g b)
    (hx : ∀ i : S4x98x104x128.Idx, V c main_v261 i = f (i 0) (i 1) (i 2) (i 3))
    (hw : ∀ i : S3x128x384.Idx, V c main_v142 i = g (i 0) (i 1) (i 2))
    (hb : ∀ i : S1x128.Idx, V c main_v262 i = b (i 1)) (i : S4x96x96x128.Idx) :
    (dat3 V c).arrAt 3 cfg3.N i = C3 (f (i 0)) g b (i 1) (i 2) (i 3) := by
  refine congrFun ((dat3 V c).arrAt_eq_of_covers 3 (fun i : S4x96x96x128.Idx => C3 (f (i 0)) g b (i 1) (i 2) (i 3))
    (by decide +kernel) fun t hf y => ?_) i
  blk_simp
  rw [after3_3]
  refine (out3_read _ _ _ (f t.val) g b ?_ ?_ ?_ _).trans ?_
  · intro j
    refine (hx _).trans ?_
    blk_simp [index3_0]
  · intro j
    refine (hw _).trans ?_
    blk_simp [index3_1]
  · intro j
    refine (hb _).trans ?_
    blk_simp [index3_2]
  blk_simp [index3_3]

end Cert.KernelIdeal.Gen
-- ==== Proof.HostStages.lean ====
/-
  The kernel's host operations between its launches, read at an index: reshapes, zero frames, phase splits and merges,
  and the losses.
-/
module

public import proofs.«01_k».proof.Proof.Gen.KernelIdeal.Launch
public import proofs.«01_k».proof.Proof.Common
public import proofs.«01_k».proof.Proof.Model
public import Idealize.ShloMosaic.Lib.Pointwise
public import Idealize.ShloMosaic.Lib.StableHlo.RunRead

@[expose] public section

set_option maxRecDepth 16384

noncomputable section

namespace Cert.KernelIdeal.Gen

open Idealize.ShloMosaic Idealize.ShloMosaic.TcCoe Idealize.ShloMosaic.Tactic Cert.Vq

variable (W : Valuation τ sig (Elt Ideal))

theorem host_v250 (h : ℕ → ℕ → ℕ → EReal)
    (hh : ∀ i : S4x4608x512.Idx, W (Proc.devRef .tc main_v249) i = h (i 0) (i 1) (i 2)) (i : S4x192x192x64.Idx) :
    StableHlo.after hostOps1 W (Proc.devRef .tc main_v250) i
      = h (i 0) ((192 * i 1 + i 2) / 8) (64 * ((192 * i 1 + i 2) % 8) + i 3) := by
  after_reads_simp
  idx_vars i
  pointwise [hh]
  refine congr3 ?_ ?_ ?_ <;> omega

theorem host_c_0 (i) : StableHlo.after hostOps0_6 W (Proc.devRef .tc main_c_0) i = 0#32 := by
  after_reads_simp
  rfl

theorem host_c_1 (i) : StableHlo.after hostOps1 W (Proc.devRef .tc main_c_1) i = 0#32 := by
  after_reads_simp
  rfl

theorem host_c_2 (i) : StableHlo.after hostOps1_2 W (Proc.devRef .tc main_c_2) i = 0#32 := by
  after_reads_simp
  rfl

theorem host_c_3 (i) : StableHlo.after hostOps2 W (Proc.devRef .tc main_c_3) i = 0#32 := by
  after_reads_simp
  rfl

theorem host_c_4 (i) : StableHlo.after hostOps3 W (Proc.devRef .tc main_c_4) i = 0#32 := by
  after_reads_simp
  rfl

theorem host_c_5 (i) : StableHlo.after hostOps4 W (Proc.devRef .tc main_c_5) i = 0#32 := by
  after_reads_simp
  rfl

theorem host_c_6 (i) : StableHlo.after hostOps5 W (Proc.devRef .tc main_c_6) i = 0#32 := by
  after_reads_simp
  rfl

theorem host_v251 (h : ℕ → ℕ → ℕ → ℕ → EReal)
    (hh : ∀ i : S4x192x192x64.Idx, W (Proc.devRef .tc main_v250) i = h (i 0) (i 3) (i 1) (i 2))
    (hz : ∀ i, W (Proc.devRef .tc main_c_1) i = 0#32) (i : S4x194x194x64.Idx) :
    StableHlo.after hostOps1_1 W (Proc.devRef .tc main_v251) i = placed 1 192 (h (i 0) (i 3)) (i 1) (i 2) := by
  after_reads_simp
  simp -implicitDefEqProofs only [StableHlo.TRef.toBuf, StableHlo.TRef.ofBuf, cast_cast, cast_eq]
  idx_vars i
  pointwise [hh, hz, placed]
  exact dite_congr rfl (fun _ => rfl) fun _ => zero_word

theorem host_v253 (h : ℕ → ℕ → ℕ → ℕ → EReal)
    (hh : ∀ i : S4x194x194x64.Idx, W (Proc.devRef .tc main_v251) i = h (i 0) (i 1) (i 2) (i 3)) (i : S4x2x2x97x97x64.Idx) :
    StableHlo.after hostOps1_2 W (Proc.devRef .tc main_v253) i = h (i 0) (2 * i 3 + i 1) (2 * i 4 + i 2) (i 5) := by
  after_reads_simp
  idx_vars i
  pointwise [hh]
  refine congr4 ?_ ?_ ?_ ?_ <;> omega

theorem host_v254 (h : ℕ → ℕ → ℕ → ℕ → EReal)
    (hh : ∀ i : S4x2x2x97x97x64.Idx, W (Proc.devRef .tc main_v253) i = placed 1 192 (h (i 0) (i 5)) (2 * i 3 + i 1) (2 * i 4 + i 2))
    (hz : ∀ i, W (Proc.devRef .tc main_c_2) i = 0#32) (i : S4x2x2x97x104x64.Idx) :
    StableHlo.after hostOps1_3 W (Proc.devRef .tc main_v254) i = placed 1 192 (h (i 0) (i 5)) (2 * i 3 + i 1) (2 * i 4 + i 2) := by
  after_reads_simp
  simp -implicitDefEqProofs only [StableHlo.TRef.toBuf, StableHlo.TRef.ofBuf, cast_cast, cast_eq]
  idx_vars i
  pointwise [hh, hz]
  split_ifs
  · rfl
  · refine zero_word.trans ?_
    unfold placed
    rw [if_neg]
    omega

theorem host_v255 (b : ℕ → EReal) (hb : ∀ i : S128.Idx, W (Proc.devRef .tc main_arg4) i = b (i 0)) (i : S1x128.Idx) :
    StableHlo.after hostOps1_4 W (Proc.devRef .tc main_v255) i = b (i 1) := by
  after_reads_simp
  idx_vars i
  pointwise [hb]

theorem host_v257 (h : ℕ → ℕ → ℕ → ℕ → EReal)
    (hh : ∀ i : S4x96x96x128.Idx, W (Proc.devRef .tc main_v256) i = h (i 0) (i 3) (i 1) (i 2))
    (hz : ∀ i, W (Proc.devRef .tc main_c_3) i = 0#32) (i : S4x98x104x128.Idx) :
    StableHlo.after hostOps2_1 W (Proc.devRef .tc main_v257) i = placed 1 96 (h (i 0) (i 3)) (i 1) (i 2) := by
  after_reads_simp
  simp -implicitDefEqProofs only [StableHlo.TRef.toBuf, StableHlo.TRef.ofBuf, cast_cast, cast_eq]
  idx_vars i
  pointwise [hh, hz, placed]
  exact dite_congr rfl (fun _ => rfl) fun _ => zero_word

theorem host_v258 (b : ℕ → EReal) (hb : ∀ i : S128.Idx, W (Proc.devRef .tc main_arg6) i = b (i 0)) (i : S1x128.Idx) :
    StableHlo.after hostOps2_2 W (Proc.devRef .tc main_v258) i = b (i 1) := by
  after_reads_simp
  idx_vars i
  pointwise [hb]

theorem host_v260 (h : ℕ → ℕ → ℕ → EReal)
    (hh : ∀ i : S4x9216x128.Idx, W (Proc.devRef .tc main_v259_0) i = h (i 0) (i 1) (i 2)) (i : S4x96x96x128.Idx) :
    StableHlo.after hostOps3 W (Proc.devRef .tc main_v260) i = h (i 0) (96 * i 1 + i 2) (i 3) := by
  after_reads_simp
  idx_vars i
  pointwise [hh]
  refine congr3 ?_ ?_ ?_ <;> omega

theorem host_v261 (h : ℕ → ℕ → ℕ → ℕ → EReal)
    (hh : ∀ i : S4x96x96x128.Idx, W (Proc.devRef .tc main_v260) i = h (i 0) (i 3) (i 1) (i 2))
    (hz : ∀ i, W (Proc.devRef .tc main_c_4) i = 0#32) (i : S4x98x104x128.Idx) :
    StableHlo.after hostOps3_1 W (Proc.devRef .tc main_v261) i = placed 1 96 (h (i 0) (i 3)) (i 1) (i 2) := by
  after_reads_simp
  simp -implicitDefEqProofs only [StableHlo.TRef.toBuf, StableHlo.TRef.ofBuf, cast_cast, cast_eq]
  idx_vars i
  pointwise [hh, hz, placed]
  exact dite_congr rfl (fun _ => rfl) fun _ => zero_word

theorem host_v262 (b : ℕ → EReal) (hb : ∀ i : S128.Idx, W (Proc.devRef .tc main_arg9) i = b (i 0)) (i : S1x128.Idx) :
    StableHlo.after hostOps3_2 W (Proc.devRef .tc main_v262) i = b (i 1) := by
  after_reads_simp
  idx_vars i
  pointwise [hb]

theorem host_v264 (h : ℕ → ℕ → ℕ → ℕ → EReal)
    (hh : ∀ i : S4x96x96x128.Idx, W (Proc.devRef .tc main_v263) i = h (i 0) (i 3) (i 1) (i 2))
    (hz : ∀ i, W (Proc.devRef .tc main_c_5) i = 0#32) (i : S4x98x104x128.Idx) :
    StableHlo.after hostOps4_1 W (Proc.devRef .tc main_v264) i = placed 1 96 (h (i 0) (i 3)) (i 1) (i 2) := by
  after_reads_simp
  simp -implicitDefEqProofs only [StableHlo.TRef.toBuf, StableHlo.TRef.ofBuf, cast_cast, cast_eq]
  idx_vars i
  pointwise [hh, hz, placed]
  exact dite_congr rfl (fun _ => rfl) fun _ => zero_word

theorem host_v265 (b : ℕ → EReal) (hb : ∀ i : S64.Idx, W (Proc.devRef .tc main_arg11) i = b (i 0)) (i : S1x64.Idx) :
    StableHlo.after hostOps4_2 W (Proc.devRef .tc main_v265) i = b (i 1) := by
  after_reads_simp
  idx_vars i
  pointwise [hb]

theorem host_v268 (h : ℕ → ℕ → ℕ → ℕ → ℕ → ℕ → EReal)
    (hh : ∀ i : S4x2x2x96x96x64.Idx, W (Proc.devRef .tc main_v266) i = h (i 0) (i 1) (i 2) (i 3) (i 4) (i 5)) (i : S4x192x192x64.Idx) :
    StableHlo.after hostOps5 W (Proc.devRef .tc main_v268) i
      = h (i 0) (i 1 % 2) (i 2 % 2) (i 1 / 2) (i 2 / 2) (i 3) := by
  after_reads_simp
  idx_vars i
  pointwise [hh]

theorem host_v269 (h : ℕ → ℕ → ℕ → ℕ → EReal)
    (hh : ∀ i : S4x192x192x64.Idx, W (Proc.devRef .tc main_v268) i = h (i 0) (i 3) (i 1) (i 2))
    (hz : ∀ i, W (Proc.devRef .tc main_c_6) i = 0#32) (i : S4x194x194x64.Idx) :
    StableHlo.after hostOps5_1 W (Proc.devRef .tc main_v269) i = placed 1 192 (h (i 0) (i 3)) (i 1) (i 2) := by
  after_reads_simp
  simp -implicitDefEqProofs only [StableHlo.TRef.toBuf, StableHlo.TRef.ofBuf, cast_cast, cast_eq]
  idx_vars i
  pointwise [hh, hz, placed]
  exact dite_congr rfl (fun _ => rfl) fun _ => zero_word

theorem host_v272 (x : ℕ → ℕ → ℕ → ℕ → EReal)
    (hx : ∀ i : S4x1x384x384.Idx, W (Proc.devRef .tc main_arg0) i = x (i 0) (i 1) (i 2) (i 3)) (i : S4x2x2x192x192.Idx) :
    StableHlo.after hostOps5_2 W (Proc.devRef .tc main_v272) i = x (i 0) 0 (2 * i 3 + i 1) (2 * i 4 + i 2) := by
  after_reads_simp
  idx_vars i
  pointwise [hx]
  refine congr4 ?_ ?_ ?_ ?_ <;> omega

theorem host_v273 (b : ℕ → EReal) (hb : ∀ i : S1.Idx, W (Proc.devRef .tc main_arg13) i = b (i 0)) (i : S1x1.Idx) :
    StableHlo.after hostOps5_2 W (Proc.devRef .tc main_v273) i = b 0 := by
  after_reads_simp
  idx_vars i
  pointwise [hb]

theorem host_v276 (r : ℕ → ℕ → ℕ → ℕ → ℕ → EReal)
    (hr : ∀ i : S4x2x2x192x192.Idx, W (Proc.devRef .tc main_v274_0) i = r (i 0) (i 1) (i 2) (i 3) (i 4)) (i : S4x1x384x384.Idx) :
    StableHlo.after hostOps6 W (Proc.devRef .tc main_v276) i = r (i 0) (i 2 % 2) (i 3 % 2) (i 2 / 2) (i 3 / 2) := by
  after_reads_simp
  idx_vars i
  pointwise [hr]

theorem host_v278 (s : ℕ → ℕ → ℕ → EReal)
    (hs : ∀ i : S4x8x128.Idx, W (Proc.devRef .tc main_v274_1) i = s (i 0) (i 1) (i 2)) (i : S_.Idx) :
    StableHlo.after hostOps6 W (Proc.devRef .tc main_v278) i
      = Ideal.div (∑ b : Fin 4, ∑ y : Fin 8, ∑ x : Fin 128, s b y x) countR := by
  after_reads_simp
  pointwise [hs]
  rfl

theorem host_v281 (s : ℕ → ℕ → ℕ → EReal)
    (hs : ∀ i : S4x8x128.Idx, W (Proc.devRef .tc main_v259_1) i = s (i 0) (i 1) (i 2)) (i : S_.Idx) :
    StableHlo.after hostOps6 W (Proc.devRef .tc main_v281) i
      = Ideal.div (∑ b : Fin 4, ∑ y : Fin 8, ∑ x : Fin 128, s b y x) countQ + Ideal.div (∑ b : Fin 4, ∑ y : Fin 8, ∑ x : Fin 128, s b y x) countQ := by
  after_reads_simp
  pointwise [hs]
  rfl

theorem host_v282 (A B : EReal) (i : S_.Idx) (hA : StableHlo.after hostOps6 W (Proc.devRef .tc main_v278) i = A)
    (hB : StableHlo.after hostOps6 W (Proc.devRef .tc main_v281) i = B) :
    StableHlo.after hostOps6 W (Proc.devRef .tc main_v282) i = A + B := by
  rw [← hA, ← hB]
  after_reads_simp
  rfl

end Cert.KernelIdeal.Gen
-- ==== Proof.KernelRun.lean ====
/-
  What the kernel's buffers hold from launch to end, stage by stage, as the model's numbers.
-/
module

public import proofs.«01_k».proof.Proof.KernelMath
public import proofs.«01_k».proof.Proof.Region3
public import proofs.«01_k».proof.Proof.HostStages
public import proofs.«01_k».proof.Proof.Gen.KernelIdeal.Frame.Fold0

@[expose] public section

set_option maxRecDepth 16384

noncomputable section

namespace Cert.KernelIdeal.Gen

open Idealize.ShloMosaic Idealize.ShloMosaic.TcCoe Idealize.ShloMosaic.Tactic Cert.Vq

variable (m : (ℓ : Loc nD τ sig) → Buf (Elt Ideal) ℓ) (ρ : Dev nD → PrngReg) (c : Dev nD)

/-! ## Stretches that leave a buffer as it was -/

theorem keep5 (r : Ref sig .tc) (h : r ∉ hostOps0_3_W ++ hostOps0_4_W) :
    W5 m ρ c (Proc.devRef .tc r) = W3 m ρ c (Proc.devRef .tc r) := by
  simp only [List.mem_append, not_or] at h
  exact (W5_of m ρ c r h.2).trans (W4_of m ρ c r h.1)

theorem keep7 (r : Ref sig .tc) (h : r ∉ hostOps0_5_W ++ hostOps0_6_W) :
    W7 m ρ c (Proc.devRef .tc r) = W5 m ρ c (Proc.devRef .tc r) := by
  simp only [List.mem_append, not_or] at h
  exact (W7_of m ρ c r h.2).trans (W6_of m ρ c r h.1)

theorem keep9 (r : Ref sig .tc) (h : r ∉ hostOps0_7_W ++ hostOps0_8_W) :
    W9 m ρ c (Proc.devRef .tc r) = W7 m ρ c (Proc.devRef .tc r) := by
  simp only [List.mem_append, not_or] at h
  exact (W9_of m ρ c r h.2).trans (W8_of m ρ c r h.1)

theorem keep15 (r : Ref sig .tc) (h : r ∉ hostOps1_W ++ hostOps1_1_W ++ hostOps1_2_W ++ hostOps1_3_W ++ hostOps1_4_W) :
    W15 m ρ c (Proc.devRef .tc r) = W10 m ρ c (Proc.devRef .tc r) := by
  simp only [List.mem_append, not_or] at h
  exact (W15_of m ρ c r h.2).trans ((W14_of m ρ c r h.1.2).trans ((W13_of m ρ c r h.1.1.2).trans ((W12_of m ρ c r h.1.1.1.2).trans (W11_of m ρ c r h.1.1.1.1))))

theorem keep19 (r : Ref sig .tc) (h : r ∉ hostOps2_W ++ hostOps2_1_W ++ hostOps2_2_W) :
    W19 m ρ c (Proc.devRef .tc r) = W16 m ρ c (Proc.devRef .tc r) := by
  simp only [List.mem_append, not_or] at h
  exact (W19_of m ρ c r h.2).trans ((W18_of m ρ c r h.1.2).trans (W17_of m ρ c r h.1.1))

theorem keep23 (r : Ref sig .tc) (h : r ∉ hostOps3_W ++ hostOps3_1_W ++ hostOps3_2_W) :
    W23 m ρ c (Proc.devRef .tc r) = W20 m ρ c (Proc.devRef .tc r) := by
  simp only [List.mem_append, not_or] at h
  exact (W23_of m ρ c r h.2).trans ((W22_of m ρ c r h.1.2).trans (W21_of m ρ c r h.1.1))

theorem keep27 (r : Ref sig .tc) (h : r ∉ hostOps4_W ++ hostOps4_1_W ++ hostOps4_2_W) :
    W27 m ρ c (Proc.devRef .tc r) = W24 m ρ c (Proc.devRef .tc r) := by
  simp only [List.mem_append, not_or] at h
  exact (W27_of m ρ c r h.2).trans ((W26_of m ρ c r h.1.2).trans (W25_of m ρ c r h.1.1))

theorem keep31 (r : Ref sig .tc) (h : r ∉ hostOps5_W ++ hostOps5_1_W ++ hostOps5_2_W) :
    W31 m ρ c (Proc.devRef .tc r) = W28 m ρ c (Proc.devRef .tc r) := by
  simp only [List.mem_append, not_or] at h
  exact (W31_of m ρ c r h.2).trans ((W30_of m ρ c r h.1.2).trans (W29_of m ρ c r h.1.1))

/-- The argument arrays hold the network's inputs. -/
structure Reads (N : Net) : Prop where
  x : ∀ i : S4x1x384x384.Idx, m ((c : Thread nD τ).loc main_arg0) i = N.x (i 0) (i 1) (i 2) (i 3)
  w1 : ∀ i : S64x1x4x4.Idx, m ((c : Thread nD τ).loc main_arg1) i = N.w1 (i 0) (i 1) (i 2) (i 3)
  b1 : ∀ i : S64.Idx, m ((c : Thread nD τ).loc main_arg2) i = N.b1 (i 0)
  w2 : ∀ i : S128x64x4x4.Idx, m ((c : Thread nD τ).loc main_arg3) i = N.w2 (i 0) (i 1) (i 2) (i 3)
  b2 : ∀ i : S128.Idx, m ((c : Thread nD τ).loc main_arg4) i = N.b2 (i 0)
  w3 : ∀ i : S128x128x3x3.Idx, m ((c : Thread nD τ).loc main_arg5) i = N.w3 (i 0) (i 1) (i 2) (i 3)
  b3 : ∀ i : S128.Idx, m ((c : Thread nD τ).loc main_arg6) i = N.b3 (i 0)
  e : ∀ i : S512x128.Idx, m ((c : Thread nD τ).loc main_arg7) i = N.e (i 0) (i 1)
  w4 : ∀ i : S128x128x3x3.Idx, m ((c : Thread nD τ).loc main_arg8) i = N.w4 (i 0) (i 1) (i 2) (i 3)
  b4 : ∀ i : S128.Idx, m ((c : Thread nD τ).loc main_arg9) i = N.b4 (i 0)
  w5 : ∀ i : S128x64x4x4.Idx, m ((c : Thread nD τ).loc main_arg10) i = N.w5 (i 0) (i 1) (i 2) (i 3)
  b5 : ∀ i : S64.Idx, m ((c : Thread nD τ).loc main_arg11) i = N.b5 (i 0)
  w6 : ∀ i : S64x1x4x4.Idx, m ((c : Thread nD τ).loc main_arg12) i = N.w6 (i 0) (i 1) (i 2) (i 3)
  b6 : ∀ i : S1.Idx, m ((c : Thread nD τ).loc main_arg13) i = N.b6 (i 0)

variable {m c} {N : Net} (h : Reads m c N)
include h

/-! ## The weights, as the launches find them -/

theorem at9_v9 (i : S128x512.Idx) :
    W9 m ρ c (Proc.devRef .tc main_v9) i = eye (i 0 / 16) (i 1 / 64) * N.w1 (i 1 % 64) 0 (i 0 % 16 / 4) (i 0 % 16 % 4) := by
  rw [keep9 m ρ c _ (by decide), keep7 m ρ c _ (by decide), keep5 m ρ c _ (by decide), W3_of m ρ c _ (by decide)]
  exact host_v9 (W1 m ρ c) eye (fun t o => N.w1 o 0 (t / 4) (t % 4)) (host_v8 _)
    (host_v2 _ N.w1 fun j => (congrFun (W0_args m ρ c main_arg1 (by decide)) j).trans (h.w1 j)) i

theorem at9_v13 (i : S1x512.Idx) : W9 m ρ c (Proc.devRef .tc main_v13) i = N.b1 (i 1 % 64) := by
  rw [keep9 m ρ c _ (by decide), keep7 m ρ c _ (by decide), keep5 m ρ c _ (by decide)]
  exact host_v13 (W2 m ρ c) N.b1 (fun j => (congrFun (W2_args m ρ c main_arg2 (by decide)) j).trans (h.b1 j)) i

theorem at15_v74 (i : S2x2x64x512.Idx) : W15 m ρ c (Proc.devRef .tc main_v74) i
    = N.w2 (i 3 % 128) (i 2) (2 * (i 3 / 256) + i 0) (2 * (i 3 / 128 % 2) + i 1) := by
  rw [keep15 m ρ c _ (by decide), W10_of m ρ c _ (by decide), keep9 m ρ c _ (by decide), keep7 m ρ c _ (by decide),
    keep5 m ρ c _ (by decide)]
  exact host_v74 (W2 m ρ c) N.w2 (fun j => (congrFun (W2_args m ρ c main_arg3 (by decide)) j).trans (h.w2 j)) i

theorem at19_v108 (i : S3x128x384.Idx) :
    W19 m ρ c (Proc.devRef .tc main_v108) i = N.w3 (i 2 % 128) (i 1) (i 0) (i 2 / 128) := by
  rw [keep19 m ρ c _ (by decide), W16_of m ρ c _ (by decide), keep15 m ρ c _ (by decide), W10_of m ρ c _ (by decide),
    keep9 m ρ c _ (by decide), keep7 m ρ c _ (by decide), keep5 m ρ c _ (by decide)]
  exact host_v108 (W2 m ρ c) N.w3 (fun j => (congrFun (W2_args m ρ c main_arg5 (by decide)) j).trans (h.w3 j)) i

theorem at19_v194 (i : S1x512.Idx) : W19 m ρ c (Proc.devRef .tc main_v194) i = normE N (i 1) := by
  rw [keep19 m ρ c _ (by decide), W16_of m ρ c _ (by decide), keep15 m ρ c _ (by decide), W10_of m ρ c _ (by decide),
    keep9 m ρ c _ (by decide)]
  exact host_v194 (W6 m ρ c) N.e (fun j => (congrFun (W6_args m ρ c main_arg7 (by decide)) j).trans (h.e j)) i

theorem at23_v142 (i : S3x128x384.Idx) :
    W23 m ρ c (Proc.devRef .tc main_v142) i = N.w4 (i 2 % 128) (i 1) (i 0) (i 2 / 128) := by
  rw [keep23 m ρ c _ (by decide), W20_of m ρ c _ (by decide), keep19 m ρ c _ (by decide), W16_of m ρ c _ (by decide),
    keep15 m ρ c _ (by decide), W10_of m ρ c _ (by decide), keep9 m ρ c _ (by decide), keep7 m ρ c _ (by decide),
    keep5 m ρ c _ (by decide)]
  exact host_v142 (W2 m ρ c) N.w4 (fun j => (congrFun (W2_args m ρ c main_arg8 (by decide)) j).trans (h.w4 j)) i

theorem at27_v188 (i : S2x2x128x256.Idx) : W27 m ρ c (Proc.devRef .tc main_v188) i
    = N.w5 (i 2) (i 3 % 64) (3 - (2 * (i 3 / 128) + i 0)) (3 - (2 * (i 3 / 64 % 2) + i 1)) := by
  rw [keep27 m ρ c _ (by decide), W24_of m ρ c _ (by decide), keep23 m ρ c _ (by decide), W20_of m ρ c _ (by decide),
    keep19 m ρ c _ (by decide), W16_of m ρ c _ (by decide), keep15 m ρ c _ (by decide), W10_of m ρ c _ (by decide),
    keep9 m ρ c _ (by decide), keep7 m ρ c _ (by decide)]
  exact host_v188 (W4 m ρ c) (fun a b i j => N.w5 a b (3 - i) (3 - j)) (host_v143 (W3 m ρ c) N.w5
    fun j => (congrFun (W3_args m ρ c main_arg10 (by decide)) j).trans (h.w5 j)) i

theorem at31_v191 (i : S4x4x64.Idx) :
    W31 m ρ c (Proc.devRef .tc main_v191) i = N.w6 (i 2) 0 (3 - i 0) (3 - i 1) := by
  rw [keep31 m ρ c _ (by decide), W28_of m ρ c _ (by decide), keep27 m ρ c _ (by decide), W24_of m ρ c _ (by decide),
    keep23 m ρ c _ (by decide), W20_of m ρ c _ (by decide), keep19 m ρ c _ (by decide), W16_of m ρ c _ (by decide),
    keep15 m ρ c _ (by decide), W10_of m ρ c _ (by decide), keep9 m ρ c _ (by decide)]
  exact host_v191 (W6 m ρ c) (fun a b i j => N.w6 a b (3 - i) (3 - j)) (host_v189 (W5 m ρ c) N.w6
    fun j => (congrFun (W5_args m ρ c main_arg12 (by decide)) j).trans (h.w6 j)) i

/-! ## The stages -/

theorem at9_v248 (i : S4x4608x128.Idx) : W9 m ρ c (Proc.devRef .tc main_v248) i
    = placed 1 384 (N.x (i 0) 0) (2 * ((i 1 * 8 + i 2 / 16) / 192) + i 2 % 16 / 4) (2 * ((i 1 * 8 + i 2 / 16) % 192) + i 2 % 16 % 4) :=
  host_v248 (W8 m ρ c) (fun b => placed 1 384 (N.x b 0)) (host_v196 (W7 m ρ c) (fun b => N.x b 0)
    (host_v195 (W6 m ρ c) N.x fun j => (congrFun (W6_args m ρ c main_arg0 (by decide)) j).trans (h.x j))
    (host_c_0 (W6 m ρ c))) i

theorem at10_v249 (i : S4x4608x512.Idx) : W10 m ρ c (Proc.devRef .tc main_v249) i
    = H1 N (i 0) (i 2 % 64) ((8 * i 1 + i 2 / 64) / 192) ((8 * i 1 + i 2 / 64) % 192) :=
  (congrFun (W10_arr m ρ c 3) i).trans ((arr0_read (V9 m ρ) c
    (fun b r k => placed 1 384 (N.x b 0) (2 * ((r * 8 + k / 16) / 192) + k % 16 / 4) (2 * ((r * 8 + k / 16) % 192) + k % 16 % 4))
    (fun k q => eye (k / 16) (q / 64) * N.w1 (q % 64) 0 (k % 16 / 4) (k % 16 % 4)) (fun q => N.b1 (q % 64))
    (at9_v248 ρ h) (at9_v9 ρ h) (at9_v13 ρ h) i).trans (C1_eq N _ _ _ (i 2).isLt))

theorem at11_v250 (i : S4x192x192x64.Idx) : W11 m ρ c (Proc.devRef .tc main_v250) i = H1 N (i 0) (i 3) (i 1) (i 2) := by
  refine (host_v250 (W10 m ρ c) (fun b r q => H1 N b (q % 64) ((8 * r + q / 64) / 192) ((8 * r + q / 64) % 192))
    (at10_v249 ρ h) i).trans ?_
  have h2 : (i 2).val < 192 := (i 2).isLt
  have h3 : (i 3).val < 64 := (i 3).isLt
  refine congr4 rfl ?_ ?_ ?_ <;> omega

theorem at15_v254 (i : S4x2x2x97x104x64.Idx) : W15 m ρ c (Proc.devRef .tc main_v254) i
    = placed 1 192 (H1 N (i 0) (i 5)) (2 * i 3 + i 1) (2 * i 4 + i 2) := by
  rw [W15_of m ρ c _ (by decide)]
  exact host_v254 (W13 m ρ c) (H1 N) (host_v253 (W12 m ρ c) (fun b y x o => placed 1 192 (H1 N b o) y x)
    (host_v251 (W11 m ρ c) (H1 N) (at11_v250 ρ h) (host_c_1 (W10 m ρ c)))) (host_c_2 (W12 m ρ c)) i

theorem at15_v255 (i : S1x128.Idx) : W15 m ρ c (Proc.devRef .tc main_v255) i = N.b2 (i 1) :=
  host_v255 (W14 m ρ c) N.b2 (fun j => (congrFun (W14_args m ρ c main_arg4 (by decide)) j).trans (h.b2 j)) i

theorem at16_v256 (i : S4x96x96x128.Idx) : W16 m ρ c (Proc.devRef .tc main_v256) i = H2 N (i 0) (i 3) (i 1) (i 2) :=
  (congrFun (W16_arr m ρ c 3) i).trans ((arr1_read (V15 m ρ) c
    (fun b p q r s o => placed 1 192 (H1 N b o) (2 * r + p) (2 * s + q))
    (fun p q k t => N.w2 (t % 128) k (2 * (t / 256) + p) (2 * (t / 128 % 2) + q)) N.b2
    (at15_v254 ρ h) (at15_v74 ρ h) (at15_v255 ρ h) i).trans (C2_eq N _ _ _ _ (i 3).isLt))

theorem at19_v257 (i : S4x98x104x128.Idx) : W19 m ρ c (Proc.devRef .tc main_v257) i
    = placed 1 96 (H2 N (i 0) (i 3)) (i 1) (i 2) := by
  rw [W19_of m ρ c _ (by decide)]
  exact host_v257 (W17 m ρ c) (H2 N) (fun j => (congrFun (W17_of m ρ c main_v256 (by decide)) j).trans (at16_v256 ρ h j))
    (host_c_3 (W16 m ρ c)) i

theorem at19_v258 (i : S1x128.Idx) : W19 m ρ c (Proc.devRef .tc main_v258) i = N.b3 (i 1) :=
  host_v258 (W18 m ρ c) N.b3 (fun j => (congrFun (W18_args m ρ c main_arg6 (by decide)) j).trans (h.b3 j)) i

theorem at19_arg7 (i : S512x128.Idx) : W19 m ρ c (Proc.devRef .tc main_arg7) i = N.e (i 0) (i 1) :=
  (congrFun (W19_args m ρ c main_arg7 (by decide)) i).trans (h.e i)

omit h in
theorem C3_channels (b y x : ℕ) (z : ℕ → EReal) (hz : ∀ o < 128, z o = ZE N b o y x) (n : ℕ → EReal) :
    near z n = near (fun o => ZE N b o y x) n := by
  unfold near
  refine congrArg nearest (funext fun k => ?_)
  congr 1
  exact Finset.sum_congr rfl fun o _ => by rw [hz o o.isLt]

omit h in
theorem C3_ZE (b y x o : ℕ) (ho : o < 128) :
    C3 (fun y x c => placed 1 96 (H2 N b c) y x) (fun i c t => N.w3 (t % 128) c i (t / 128)) N.b3 y x o = ZE N b o y x :=
  C3_eq (fun c => placed 1 96 (H2 N b c)) N.w3 N.b3 o y x ho

theorem at20_v259_0 (i : S4x9216x128.Idx) : W20 m ρ c (Proc.devRef .tc main_v259_0) i
    = ZQ N (i 0) (i 2) (i 1 / 96) (i 1 % 96) :=
  (congrFun (W20_arr m ρ c 5) i).trans ((arr2_read (V19 m ρ) c
    (fun b y x o => placed 1 96 (H2 N b o) y x) (fun i k t => N.w3 (t % 128) k i (t / 128)) N.b3 N.e (normE N)
    (at19_v257 ρ h) (at19_v108 ρ h) (at19_v258 ρ h) (at19_arg7 ρ h) (at19_v194 ρ h) i).trans
    (congrArg (fun k => N.e k (i 2)) (C3_channels (N := N) _ _ _ _ (fun o ho => C3_ZE _ _ _ o ho) _)))

theorem at20_v259_1 (i : S4x8x128.Idx) : W20 m ρ c (Proc.devRef .tc main_v259_1) i
    = corner (∑ y : Fin 96, ∑ x : Fin 96, ∑ o : Fin 128,
        (ZQ N (i 0) o y x - ZE N (i 0) o y x) * (ZQ N (i 0) o y x - ZE N (i 0) o y x)) (i 1) (i 2) := by
  refine (congrFun (W20_arr m ρ c 6) i).trans ((arr2_loss (V19 m ρ) c
    (fun b y x o => placed 1 96 (H2 N b o) y x) (fun i k t => N.w3 (t % 128) k i (t / 128)) N.b3 N.e (normE N)
    (at19_v257 ρ h) (at19_v108 ρ h) (at19_v258 ρ h) (at19_arg7 ρ h) (at19_v194 ρ h) i).trans ?_)
  rw [← vqimage_eq]
  refine congrArg (fun T => corner T (i 1) (i 2)) ?_
  exact vqimage_congr _ _ _ _ fun y x o ho => C3_ZE _ _ _ o ho

theorem at21_v260 (i : S4x96x96x128.Idx) : W21 m ρ c (Proc.devRef .tc main_v260) i = ZQ N (i 0) (i 3) (i 1) (i 2) := by
  refine (host_v260 (W20 m ρ c) (fun b r o => ZQ N b o (r / 96) (r % 96)) (at20_v259_0 ρ h) i).trans ?_
  have h2 : (i 2).val < 96 := (i 2).isLt
  refine congr4 rfl rfl ?_ ?_ <;> omega

theorem at23_v261 (i : S4x98x104x128.Idx) : W23 m ρ c (Proc.devRef .tc main_v261) i
    = placed 1 96 (ZQ N (i 0) (i 3)) (i 1) (i 2) := by
  rw [W23_of m ρ c _ (by decide)]
  exact host_v261 (W21 m ρ c) (ZQ N) (at21_v260 ρ h) (host_c_4 (W20 m ρ c)) i

theorem at23_v262 (i : S1x128.Idx) : W23 m ρ c (Proc.devRef .tc main_v262) i = N.b4 (i 1) :=
  host_v262 (W22 m ρ c) N.b4 (fun j => (congrFun (W22_args m ρ c main_arg9 (by decide)) j).trans (h.b4 j)) i

theorem at24_v263 (i : S4x96x96x128.Idx) : W24 m ρ c (Proc.devRef .tc main_v263) i = D1 N (i 0) (i 3) (i 1) (i 2) :=
  (congrFun (W24_arr m ρ c 3) i).trans ((arr3_read (V23 m ρ) c
    (fun b y x o => placed 1 96 (ZQ N b o) y x) (fun i k t => N.w4 (t % 128) k i (t / 128)) N.b4
    (at23_v261 ρ h) (at23_v142 ρ h) (at23_v262 ρ h) i).trans
    (C3_eq (fun o => placed 1 96 (ZQ N (i 0) o)) N.w4 N.b4 _ _ _ (i 3).isLt))

theorem at27_v264 (i : S4x98x104x128.Idx) : W27 m ρ c (Proc.devRef .tc main_v264) i
    = placed 1 96 (D1 N (i 0) (i 3)) (i 1) (i 2) := by
  rw [W27_of m ρ c _ (by decide)]
  exact host_v264 (W25 m ρ c) (D1 N) (fun j => (congrFun (W25_of m ρ c main_v263 (by decide)) j).trans (at24_v263 ρ h j))
    (host_c_5 (W24 m ρ c)) i

theorem at27_v265 (i : S1x64.Idx) : W27 m ρ c (Proc.devRef .tc main_v265) i = N.b5 (i 1) :=
  host_v265 (W26 m ρ c) N.b5 (fun j => (congrFun (W26_args m ρ c main_arg11 (by decide)) j).trans (h.b5 j)) i

theorem at28_v266 (i : S4x2x2x96x96x64.Idx) : W28 m ρ c (Proc.devRef .tc main_v266) i
    = D2 N (i 0) (i 5) (2 * i 3 + i 1) (2 * i 4 + i 2) :=
  (congrFun (W28_arr m ρ c 3) i).trans ((arr4_read (V27 m ρ) c
    (fun b y x o => placed 1 96 (D1 N b o) y x)
    (fun p q k t => N.w5 k (t % 64) (3 - (2 * (t / 128) + p)) (3 - (2 * (t / 64 % 2) + q))) N.b5
    (at27_v264 ρ h) (at27_v188 ρ h) (at27_v265 ρ h) i).trans (C5_eq N _ _ _ _ _ _ (i 5).isLt (i 1).isLt (i 2).isLt))

theorem at29_v268 (i : S4x192x192x64.Idx) : W29 m ρ c (Proc.devRef .tc main_v268) i = D2 N (i 0) (i 3) (i 1) (i 2) := by
  refine (host_v268 (W28 m ρ c) (fun b p q y x o => D2 N b o (2 * y + p) (2 * x + q)) (at28_v266 ρ h) i).trans ?_
  refine congr4 rfl rfl ?_ ?_ <;> omega

theorem at31_v269 (i : S4x194x194x64.Idx) : W31 m ρ c (Proc.devRef .tc main_v269) i
    = placed 1 192 (D2 N (i 0) (i 3)) (i 1) (i 2) := by
  rw [W31_of m ρ c _ (by decide)]
  exact host_v269 (W29 m ρ c) (D2 N) (at29_v268 ρ h) (host_c_6 (W28 m ρ c)) i

theorem at31_v272 (i : S4x2x2x192x192.Idx) : W31 m ρ c (Proc.devRef .tc main_v272) i
    = N.x (i 0) 0 (2 * i 3 + i 1) (2 * i 4 + i 2) :=
  host_v272 (W30 m ρ c) N.x (fun j => (congrFun (W30_args m ρ c main_arg0 (by decide)) j).trans (h.x j)) i

theorem at31_v273 (i : S1x1.Idx) : W31 m ρ c (Proc.devRef .tc main_v273) i = N.b6 0 :=
  host_v273 (W30 m ρ c) N.b6 (fun j => (congrFun (W30_args m ρ c main_arg13 (by decide)) j).trans (h.b6 j)) i

theorem at32_v274_0 (i : S4x2x2x192x192.Idx) : W32 m ρ c (Proc.devRef .tc main_v274_0) i
    = REC N (i 0) (2 * i 3 + i 1) (2 * i 4 + i 2) :=
  (congrFun (W32_arr m ρ c 4) i).trans ((arr5_read (V31 m ρ) c
    (fun b y x o => placed 1 192 (D2 N b o) y x) (fun i j k => N.w6 k 0 (3 - i) (3 - j)) (N.b6 0)
    (at31_v269 ρ h) (at31_v191 ρ h) (at31_v273 ρ h) i).trans (C6_eq N _ _ _ _ _ (i 1).isLt (i 2).isLt))

theorem at32_v274_1 (i : S4x8x128.Idx) : W32 m ρ c (Proc.devRef .tc main_v274_1) i
    = corner (∑ y : Fin 384, ∑ x : Fin 384, (REC N (i 0) y x - N.x (i 0) 0 y x) * (REC N (i 0) y x - N.x (i 0) 0 y x)) (i 1) (i 2) := by
  refine (congrFun (W32_arr m ρ c 5) i).trans ((arr5_loss (V31 m ρ) c
    (fun b y x o => placed 1 192 (D2 N b o) y x) (fun i j k => N.w6 k 0 (3 - i) (3 - j)) (N.b6 0)
    (fun b p q y x => N.x b 0 (2 * y + p) (2 * x + q))
    (at31_v269 ρ h) (at31_v272 ρ h) (at31_v191 ρ h) (at31_v273 ρ h) i).trans ?_)
  rw [← rlimage_eq]
  refine congrArg (fun T => corner T (i 1) (i 2)) ?_
  exact rlimage_congr _ _ _ fun p q y x hp hq => C6_eq N _ _ _ _ _ hp hq

/-! ## The results -/

theorem kernel_recon (i : S4x1x384x384.Idx) : W33 m ρ c (Proc.devRef .tc main_v276) i = REC N (i 0) (i 2) (i 3) := by
  refine (host_v276 (W32 m ρ c) (fun b p q y x => REC N b (2 * y + p) (2 * x + q)) (at32_v274_0 ρ h) i).trans ?_
  refine congr3 rfl ?_ ?_ <;> omega

theorem kernel_lossR (i : S_.Idx) : W33 m ρ c (Proc.devRef .tc main_v278) i = Ideal.div (sumR N) countR := by
  refine (host_v278 (W32 m ρ c) (fun b y x => corner (∑ y : Fin 384, ∑ x : Fin 384, (REC N b y x - N.x b 0 y x) * (REC N b y x - N.x b 0 y x)) y x)
    (at32_v274_1 ρ h) i).trans ?_
  simp only [sum_corner]
  rfl

theorem kernel_lossQ (i : S_.Idx) : W33 m ρ c (Proc.devRef .tc main_v281) i
    = Ideal.div (sumQ N) countQ + Ideal.div (sumQ N) countQ := by
  refine (host_v281 (W32 m ρ c) (fun b y x => corner (∑ y : Fin 96, ∑ x : Fin 96, ∑ o : Fin 128,
        (ZQ N b o y x - ZE N b o y x) * (ZQ N b o y x - ZE N b o y x)) y x) (fun j => ?_) i).trans ?_
  · rw [W32_of m ρ c _ (by decide), keep31 m ρ c _ (by decide), W28_of m ρ c _ (by decide), keep27 m ρ c _ (by decide),
      W24_of m ρ c _ (by decide), keep23 m ρ c _ (by decide)]
    exact at20_v259_1 ρ h j
  simp only [sum_corner]
  rfl

theorem kernel_total (i : S_.Idx) : W33 m ρ c (Proc.devRef .tc main_v282) i
    = Ideal.div (sumR N) countR + (Ideal.div (sumQ N) countQ + Ideal.div (sumQ N) countQ) :=
  host_v282 (W32 m ρ c) _ _ i (kernel_lossR ρ h i) (kernel_lossQ ρ h i)

end Cert.KernelIdeal.Gen
-- ==== Proof.KernelEnds.lean ====
/-
  The launch of the kernel: after it, every buffer outside the regions holds what the last stage leaves there.
-/
module

public import proofs.«01_k».proof.Proof.KernelRun
public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every weakly fair run ends with each host buffer holding the last stage's contents. -/
theorem ends : θ_run defs (onTc (τ := τ) (main (F := F))) ⟨m, fun _ => 0, ρ⟩ (fun r => ∀ c : Dev nD,
    ∀ b ∈ Pipeline.ucRefs τ sig, r.2.mem ((c : Thread nD τ).1, b) = W33 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W33 m ρ c b)
    (hfin := fun c s' => by
      iintro ⟨⟨Hh, -⟩, HSI⟩
      unfold StableHlo.held
      imodintro
      iapply (pointsTo_read_all (Pipeline.ucRefs τ sig) (fun b => (((c : Thread nD τ)).1, b)) (W33 m ρ c) s')
      isplitl [Hh] <;> iassumption)
    (hQ := fun s h _ => fun c b hb => h c b hb)

end Cert.KernelIdeal.Gen
-- ==== Proof.Fed.lean ====
/-
  The reference's arguments read as the model's numbers.
-/
module

public import proofs.«01_k».proof.Proof.Gen.ReferenceIdeal.Read
public import proofs.«01_k».proof.Proof.Common
public import proofs.«01_k».proof.Proof.Model
public import Idealize.ShloMosaic.Lib.Pointwise

@[expose] public section

noncomputable section

namespace Cert.ReferenceIdeal.Read

open Cert.ReferenceIdeal Cert.ReferenceIdeal.Gen Idealize.ShloMosaic Idealize.ShloMosaic.Tactic Cert.Vq

/-- The reference's arguments hold the network's inputs. -/
structure Fed (N : Net) (x0 : Vec Ideal S4x1x384x384 .f32) (x1 : Vec Ideal S64x1x4x4 .f32) (x2 : Vec Ideal S64 .f32)
    (x3 : Vec Ideal S128x64x4x4 .f32) (x4 : Vec Ideal S128 .f32) (x5 : Vec Ideal S128x128x3x3 .f32) (x6 : Vec Ideal S128 .f32)
    (x7 : Vec Ideal S512x128 .f32) (x8 : Vec Ideal S128x128x3x3 .f32) (x9 : Vec Ideal S128 .f32)
    (x10 : Vec Ideal S128x64x4x4 .f32) (x11 : Vec Ideal S64 .f32) (x12 : Vec Ideal S64x1x4x4 .f32) (x13 : Vec Ideal S1 .f32) :
    Prop where
  x : ∀ i, x0 i = N.x (i 0) (i 1) (i 2) (i 3)
  w1 : ∀ i, x1 i = N.w1 (i 0) (i 1) (i 2) (i 3)
  b1 : ∀ i, x2 i = N.b1 (i 0)
  w2 : ∀ i, x3 i = N.w2 (i 0) (i 1) (i 2) (i 3)
  b2 : ∀ i, x4 i = N.b2 (i 0)
  w3 : ∀ i, x5 i = N.w3 (i 0) (i 1) (i 2) (i 3)
  b3 : ∀ i, x6 i = N.b3 (i 0)
  e : ∀ i, x7 i = N.e (i 0) (i 1)
  w4 : ∀ i, x8 i = N.w4 (i 0) (i 1) (i 2) (i 3)
  b4 : ∀ i, x9 i = N.b4 (i 0)
  w5 : ∀ i, x10 i = N.w5 (i 0) (i 1) (i 2) (i 3)
  b5 : ∀ i, x11 i = N.b5 (i 0)
  w6 : ∀ i, x12 i = N.w6 (i 0) (i 1) (i 2) (i 3)
  b6 : ∀ i, x13 i = N.b6 (i 0)

theorem cast_val {S T : Shape} (hc : S = T) (k : T.Idx) (n : ℕ) (hn : n < S.rank) :
    ((cast (congrArg Shape.Idx hc).symm k : S.Idx) ⟨n, hn⟩).val = (k ⟨n, hc ▸ hn⟩).val := by
  subst hc
  rfl

theorem shape_three {a b c : ℕ} (S : Shape) (h3 : S.rank = 3) (h0 : S.size ⟨0, by omega⟩ = a)
    (h1 : S.size ⟨1, by omega⟩ = b) (h2 : S.size ⟨2, by omega⟩ = c) : S = ⟨3, ![a, b, c]⟩ := by
  obtain ⟨r, f⟩ := S
  obtain rfl : r = 3 := h3
  refine congrArg (Shape.mk 3) (funext fun k => ?_)
  fin_cases k
  · exact h0
  · exact h1
  · exact h2

/-- The product of a filter with stacked shifted images, summed over input channel, row and column. -/
theorem dot_taps {O C K B H : ℕ} (D : DotDims ⟨4, ![O, C, K, K]⟩ ⟨6, ![B, C, K, K, H, H]⟩ ⟨4, ![O, B, H, H]⟩)
    (prec : Option ContractPrecision) (h3 : D.contr.rank = 3) (h0 : D.contr.size ⟨0, by omega⟩ = C)
    (h1 : D.contr.size ⟨1, by omega⟩ = K) (h2 : D.contr.size ⟨2, by omega⟩ = K)
    (hl : ∀ j k a, (D.lhsIdx j k a).val
      = ![(j 0).val, (k ⟨0, by omega⟩).val, (k ⟨1, by omega⟩).val, (k ⟨2, by omega⟩).val] a)
    (hr : ∀ j k a, (D.rhsIdx j k a).val
      = ![(j 1).val, (k ⟨0, by omega⟩).val, (k ⟨1, by omega⟩).val, (k ⟨2, by omega⟩).val, (j 2).val, (j 3).val] a)
    (L : FVec Ideal ⟨4, ![O, C, K, K]⟩ .f32) (R : FVec Ideal ⟨6, ![B, C, K, K, H, H]⟩ .f32)
    (w : ℕ → ℕ → ℕ → ℕ → EReal) (g : ℕ → ℕ → ℕ → ℕ → ℕ → ℕ → EReal)
    (hw : ∀ i, L i = w (i 0) (i 1) (i 2) (i 3)) (hg : ∀ i, R i = g (i 0) (i 1) (i 2) (i 3) (i 4) (i 5))
    (i : (⟨4, ![O, B, H, H]⟩ : Shape).Idx) :
    Host.dotGeneral D prec L R i
      = ∑ p : Fin K, ∑ q : Fin K, ∑ c : Fin C, g (i 1) c p q (i 2) (i 3) * w (i 0) c p q := by
  have hc := shape_three D.contr h3 h0 h1 h2
  refine (Ideal.dotGeneral_apply D prec _ L R i).trans ?_
  have hs : ∑ k : D.contr.Idx, L (D.lhsIdx i k) * R (D.rhsIdx i k)
      = ∑ k : (⟨3, ![C, K, K]⟩ : Shape).Idx, w (i 0) (k 0) (k 1) (k 2) * g (i 1) (k 0) (k 1) (k 2) (i 2) (i 3) := by
    refine (Equiv.sum_comp (Equiv.cast (congrArg Shape.Idx hc).symm) _).symm.trans (Finset.sum_congr rfl fun k _ => ?_)
    simp only [Equiv.cast_apply, hw, hg, hl, hr, cast_val hc]
    rfl
  rw [hs, sum_idx3]
  refine (Finset.sum_comm.trans (Finset.sum_congr rfl fun p _ => Finset.sum_comm.trans
    (Finset.sum_congr rfl fun q _ => Finset.sum_congr rfl fun c _ => mul_comm _ _)))

end Cert.ReferenceIdeal.Read
-- ==== Proof.Encoder.lean ====
/-
  The reference's encoder, read as the model's numbers.
-/
module

public import proofs.«01_k».proof.Proof.Fed

@[expose] public section

noncomputable section

namespace Cert.ReferenceIdeal.Read

open Cert.ReferenceIdeal Cert.ReferenceIdeal.Gen Idealize.ShloMosaic Idealize.ShloMosaic.Tactic Cert.Vq

variable {N : Net} {x0 : Vec Ideal S4x1x384x384 .f32} {x1 : Vec Ideal S64x1x4x4 .f32} {x2 : Vec Ideal S64 .f32}
  {x3 : Vec Ideal S128x64x4x4 .f32} {x4 : Vec Ideal S128 .f32} {x5 : Vec Ideal S128x128x3x3 .f32} {x6 : Vec Ideal S128 .f32}
  {x7 : Vec Ideal S512x128 .f32} {x8 : Vec Ideal S128x128x3x3 .f32} {x9 : Vec Ideal S128 .f32}
  {x10 : Vec Ideal S128x64x4x4 .f32} {x11 : Vec Ideal S64 .f32} {x12 : Vec Ideal S64x1x4x4 .f32} {x13 : Vec Ideal S1 .f32}

section
variable (h : Fed N x0 x1 x2 x3 x4 x5 x6 x7 x8 x9 x10 x11 x12 x13)
include h

theorem ref_v0 (i : S4x1x386x386.Idx) :
    val_main_v0 (F := Ideal) x0 i = placed 1 384 (N.x (i 0) 0) (i 2) (i 3) := by
  unfold val_main_v0 val_main_call0_v0 val_main_c
  idx_vars i
  pointwise [h.x, placed]
  exact dite_congr rfl (fun _ => rfl) fun _ => zero_word

theorem ref_v9 (i : S4x1x4x192x386.Idx) :
    val_main_v9 (F := Ideal) x0 i = placed 1 384 (N.x (i 0) 0) (2 * i 3 + i 2) (i 4) := by
  unfold val_main_v9 val_main_v8 val_main_v7 val_main_v6 val_main_v5 val_main_v4 val_main_v3 val_main_v2 val_main_v1
  idx_vars i
  pointwise [ref_v0 h]
  split_ifs <;> refine congr2 ?_ ?_ <;> omega

theorem ref_v18 (i : S4x1x4x4x192x192.Idx) :
    val_main_v18 (F := Ideal) x0 i = placed 1 384 (N.x (i 0) 0) (2 * i 4 + i 2) (2 * i 5 + i 3) := by
  unfold val_main_v18 val_main_v17 val_main_v16 val_main_v15 val_main_v14 val_main_v13 val_main_v12 val_main_v11 val_main_v10
  idx_vars i
  pointwise [ref_v9 h]
  split_ifs <;> refine congr2 ?_ ?_ <;> omega

theorem ref_v19 (i : S64x4x192x192.Idx) :
    val_main_v19 (F := Ideal) x0 x1 i
      = ∑ p : Fin 4, ∑ q : Fin 4, ∑ c : Fin 1, placed 1 384 (N.x (i 1) c) (2 * i 2 + p) (2 * i 3 + q) * N.w1 (i 0) c p q := by
  refine (dot_taps dot_S64x1x4x4_S4x1x4x4x192x192_S64x4x192x192_123_123_0_045_n_n _ rfl rfl rfl rfl
    (fun j k a => by fin_cases a <;> rfl) (fun j k a => by fin_cases a <;> rfl) x1 _ N.w1
    (fun b c p q y x => placed 1 384 (N.x b c) (2 * y + p) (2 * x + q)) h.w1 (fun j => (ref_v18 h j).trans ?_) i)
  have h1 : (j 1).val < 1 := (j 1).isLt
  rw [Nat.lt_one_iff.mp h1]

theorem ref_v24 (i : S4x64x192x192.Idx) : val_main_v24 (F := Ideal) x0 x1 x2 i = H1 N (i 0) (i 1) (i 2) (i 3) := by
  unfold val_main_v24 val_main_call1_v0 val_main_call1_cst val_main_v23 val_main_v22 val_main_v21 val_main_v20
  idx_vars i
  pointwise [ref_v19 h, h.b1]
  have hc (c : Fin 1) : c.val = 0 := by omega
  simp only [H1, conv, hc]

theorem ref_v25 (i : S4x64x194x194.Idx) :
    val_main_v25 (F := Ideal) x0 x1 x2 i = placed 1 192 (H1 N (i 0) (i 1)) (i 2) (i 3) := by
  unfold val_main_v25 val_main_call2_v0 val_main_c_0
  idx_vars i
  pointwise [ref_v24 h, placed]
  exact dite_congr rfl (fun _ => rfl) fun _ => zero_word

theorem ref_v34 (i : S4x64x4x96x194.Idx) :
    val_main_v34 (F := Ideal) x0 x1 x2 i = placed 1 192 (H1 N (i 0) (i 1)) (2 * i 3 + i 2) (i 4) := by
  unfold val_main_v34 val_main_v33 val_main_v32 val_main_v31 val_main_v30 val_main_v29 val_main_v28 val_main_v27 val_main_v26
  idx_vars i
  pointwise [ref_v25 h]
  split_ifs <;> refine congr2 ?_ ?_ <;> omega

theorem ref_v43 (i : S4x64x4x4x96x96.Idx) :
    val_main_v43 (F := Ideal) x0 x1 x2 i = placed 1 192 (H1 N (i 0) (i 1)) (2 * i 4 + i 2) (2 * i 5 + i 3) := by
  unfold val_main_v43 val_main_v42 val_main_v41 val_main_v40 val_main_v39 val_main_v38 val_main_v37 val_main_v36 val_main_v35
  idx_vars i
  pointwise [ref_v34 h]
  split_ifs <;> refine congr2 ?_ ?_ <;> omega

theorem ref_v44 (i : S128x4x96x96.Idx) :
    val_main_v44 (F := Ideal) x0 x1 x2 x3 i = ∑ p : Fin 4, ∑ q : Fin 4, ∑ c : Fin 64,
      placed 1 192 (H1 N (i 1) c) (2 * i 2 + p) (2 * i 3 + q) * N.w2 (i 0) c p q :=
  dot_taps dot_S128x64x4x4_S4x64x4x4x96x96_S128x4x96x96_123_123_0_045_n_n _ rfl rfl rfl rfl
    (fun j k a => by fin_cases a <;> rfl) (fun j k a => by fin_cases a <;> rfl) x3 _ N.w2
    (fun b c p q y x => placed 1 192 (H1 N b c) (2 * y + p) (2 * x + q)) h.w2 (ref_v43 h) i

theorem ref_v49 (i : S4x128x96x96.Idx) :
    val_main_v49 (F := Ideal) x0 x1 x2 x3 x4 i = H2 N (i 0) (i 1) (i 2) (i 3) := by
  unfold val_main_v49 val_main_call3_v0 val_main_call3_cst val_main_v48 val_main_v47 val_main_v46 val_main_v45
  idx_vars i
  pointwise [ref_v44 h, h.b2]
  simp only [H2, conv]

theorem ref_v50 (i : S4x128x98x98.Idx) :
    val_main_v50 (F := Ideal) x0 x1 x2 x3 x4 i = placed 1 96 (H2 N (i 0) (i 1)) (i 2) (i 3) := by
  unfold val_main_v50 val_main_call4_v0 val_main_c_1
  idx_vars i
  pointwise [ref_v49 h, placed]
  exact dite_congr rfl (fun _ => rfl) fun _ => zero_word

theorem ref_v57 (i : S4x128x3x96x98.Idx) :
    val_main_v57 (F := Ideal) x0 x1 x2 x3 x4 i = placed 1 96 (H2 N (i 0) (i 1)) (1 * i 3 + i 2) (i 4) := by
  unfold val_main_v57 val_main_v56 val_main_v55 val_main_v54 val_main_v53 val_main_v52 val_main_v51
  idx_vars i
  pointwise [ref_v50 h]
  split_ifs <;> refine congr2 ?_ ?_ <;> omega

theorem ref_v64 (i : S4x128x3x3x96x96.Idx) :
    val_main_v64 (F := Ideal) x0 x1 x2 x3 x4 i = placed 1 96 (H2 N (i 0) (i 1)) (1 * i 4 + i 2) (1 * i 5 + i 3) := by
  unfold val_main_v64 val_main_v63 val_main_v62 val_main_v61 val_main_v60 val_main_v59 val_main_v58
  idx_vars i
  pointwise [ref_v57 h]
  split_ifs <;> refine congr2 ?_ ?_ <;> omega

theorem ref_v65 (i : S128x4x96x96.Idx) :
    val_main_v65 (F := Ideal) x0 x1 x2 x3 x4 x5 i = ∑ p : Fin 3, ∑ q : Fin 3, ∑ c : Fin 128,
      placed 1 96 (H2 N (i 1) c) (1 * i 2 + p) (1 * i 3 + q) * N.w3 (i 0) c p q :=
  dot_taps dot_S128x128x3x3_S4x128x3x3x96x96_S128x4x96x96_123_123_0_045_n_n _ rfl rfl rfl rfl
    (fun j k a => by fin_cases a <;> rfl) (fun j k a => by fin_cases a <;> rfl) x5 _ N.w3
    (fun b c p q y x => placed 1 96 (H2 N b c) (1 * y + p) (1 * x + q)) h.w3 (ref_v64 h) i

/-- The encoder's output. -/
theorem ref_v69 (i : S4x128x96x96.Idx) :
    val_main_v69 (F := Ideal) x0 x1 x2 x3 x4 x5 x6 i = ZE N (i 0) (i 1) (i 2) (i 3) := by
  unfold val_main_v69 val_main_v68 val_main_v67 val_main_v66
  idx_vars i
  pointwise [ref_v65 h, h.b3]
  simp only [ZE, conv, one_mul]

end

end Cert.ReferenceIdeal.Read
-- ==== Proof.Quantiser.lean ====
/-
  The reference's quantiser, read as the model's numbers.
-/
module

public import proofs.«01_k».proof.Proof.Encoder
public import proofs.«01_k».proof.Proof.Nearest
public import Idealize.ShloMosaic.Lib.Routing.Ops

@[expose] public section

noncomputable section

namespace Cert.ReferenceIdeal.Read

open Cert.ReferenceIdeal Cert.ReferenceIdeal.Gen Idealize.ShloMosaic Idealize.ShloMosaic.Tactic Cert.Vq

variable {N : Net} {x0 : Vec Ideal S4x1x384x384 .f32} {x1 : Vec Ideal S64x1x4x4 .f32} {x2 : Vec Ideal S64 .f32}
  {x3 : Vec Ideal S128x64x4x4 .f32} {x4 : Vec Ideal S128 .f32} {x5 : Vec Ideal S128x128x3x3 .f32} {x6 : Vec Ideal S128 .f32}
  {x7 : Vec Ideal S512x128 .f32} {x8 : Vec Ideal S128x128x3x3 .f32} {x9 : Vec Ideal S128 .f32}
  {x10 : Vec Ideal S128x64x4x4 .f32} {x11 : Vec Ideal S64 .f32} {x12 : Vec Ideal S64x1x4x4 .f32} {x13 : Vec Ideal S1 .f32}

section
variable (h : Fed N x0 x1 x2 x3 x4 x5 x6 x7 x8 x9 x10 x11 x12 x13)
include h

theorem ref_v81 (i : S36864x512.Idx) :
    val_main_v81 (F := Ideal) x0 x1 x2 x3 x4 x5 x6 x7 i
      = -((∑ c : Fin 128, ZE N (i 0 / 9216) c (i 0 / 96 % 96) (i 0 % 96) * ZE N (i 0 / 9216) c (i 0 / 96 % 96) (i 0 % 96)) + normE N (i 1)) := by
  unfold val_main_v81 val_main_v80 val_main_v79 val_main_v78 val_main_v77 val_main_v76 val_main_cst_2 val_main_v75 val_main_v74 val_main_v73
    val_main_cst val_main_v72 val_main_v71 val_main_v70
  idx_vars i
  pointwise [ref_v69 h, h.e]
  rfl

/-- The pixel's distances and their nearest entry. -/
theorem ref_indices (i : S36864x1.Idx) :
    val_main_indices (F := Ideal) x0 x1 x2 x3 x4 x5 x6 x7 i
      = BitVec.ofNat 32 (near (fun c => ZE N (i 0 / 9216) c (i 0 / 96 % 96) (i 0 % 96)) (normE N)) :=
  topK_nearest (val_main_v81 (F := Ideal) x0 x1 x2 x3 x4 x5 x6 x7)
    (fun r k => (∑ c : Fin 128, ZE N (r / 9216) c (r / 96 % 96) (r % 96) * ZE N (r / 9216) c (r / 96 % 96) (r % 96)) + normE N k)
    (ref_v81 h) _ i

theorem ref_rows (i : S36864x1.Idx) :
    val_main_call5_v0 (F := Ideal) x0 x1 x2 x3 x4 x5 x6 x7 i
      = BitVec.ofNat 32 (near (fun c => ZE N (i 0 / 9216) c (i 0 / 96 % 96) (i 0 % 96)) (normE N)) := by
  unfold val_main_call5_v0 val_main_v82
  idx_vars i
  pointwise [ref_indices h]

theorem ref_v83 (i : S36864x128.Idx) :
    val_main_v83 (F := Ideal) x0 x1 x2 x3 x4 x5 x6 x7 i
      = N.e (near (fun c => ZE N (i 0 / 9216) c (i 0 / 96 % 96) (i 0 % 96)) (normE N)) (i 1) := by
  unfold val_main_v83
  idx_vars i
  refine (Routing.gather_row _ rfl rfl rfl rfl rfl x7 _ i0 i1 ⟨near (fun c => ZE N (i0 / 9216) c (i0 / 96 % 96) (i0 % 96)) (normE N), nearest_lt _⟩
    (ref_rows h (ix2 i0 (0 : Fin 1))) (by norm_num)).trans (h.e _)

/-- The quantised image. -/
theorem ref_v85 (i : S4x128x96x96.Idx) :
    val_main_v85 (F := Ideal) x0 x1 x2 x3 x4 x5 x6 x7 i = ZQ N (i 0) (i 1) (i 2) (i 3) := by
  unfold val_main_v85 val_main_v84
  idx_vars i
  pointwise [ref_v83 h]
  have h0 : (i0.val * 9216 + i2.val * 96 + i3.val) / 9216 = i0.val := by omega
  have h2 : (i0.val * 9216 + i2.val * 96 + i3.val) / 96 % 96 = i2.val := by omega
  have h3 : (i0.val * 9216 + i2.val * 96 + i3.val) % 96 = i3.val := by omega
  rw [h0, h2, h3]
  rfl

theorem ref_sum (i : S_.Idx) : Host.reduceAdd (F := Ideal) (val_main_v87 (F := Ideal) x0 x1 x2 x3 x4 x5 x6 x7) (constant S_ .f32 0x00000000#32)
    reducesTo_S4x128x96x96_S_d0_1_2_3 h_S_ i = sumQ N := by
  refine (val_main_v88_apply _ _ _ _ _ _ _ _ i).trans ?_
  have hz : val_main_cst_3 (F := Ideal) (Shape.Idx.first h_S_) = 0 := zero_bits
  rw [hz, zero_add, sum_idx4]
  have ht (a : Fin 4) (b : Fin 128) (c e : Fin 96) : val_main_v87 (F := Ideal) x0 x1 x2 x3 x4 x5 x6 x7 (ix4 a b c e)
      = (ZQ N a b c e - ZE N a b c e) * (ZQ N a b c e - ZE N a b c e) := by
    unfold val_main_v87 val_main_v86
    pointwise [ref_v85 h, ref_v69 h]
  simp only [ht]
  unfold sumQ
  refine Finset.sum_congr rfl fun a _ => Finset.sum_comm.trans (Finset.sum_congr rfl fun c _ => ?_)
  exact Finset.sum_comm

/-- The quantiser's loss: the two equal terms. -/
theorem ref_v94 (i : S_.Idx) : val_main_v94 (F := Ideal) x0 x1 x2 x3 x4 x5 x6 x7 i = Ideal.div (sumQ N) countQ + Ideal.div (sumQ N) countQ := by
  have h1 : val_main_v89 (F := Ideal) x0 x1 x2 x3 x4 x5 x6 x7 i = Ideal.div (sumQ N) countQ :=
    congrArg (fun s => Ideal.div s countQ) (ref_sum h i)
  exact congrArg₂ (· + ·) h1 h1

end

end Cert.ReferenceIdeal.Read
-- ==== Proof.Decoder.lean ====
/-
  The reference's decoder, read as the model's numbers.
-/
module

public import proofs.«01_k».proof.Proof.Quantiser

@[expose] public section

noncomputable section

namespace Cert.ReferenceIdeal.Read

open Cert.ReferenceIdeal Cert.ReferenceIdeal.Gen Idealize.ShloMosaic Idealize.ShloMosaic.Tactic Cert.Vq

variable {N : Net} {x0 : Vec Ideal S4x1x384x384 .f32} {x1 : Vec Ideal S64x1x4x4 .f32} {x2 : Vec Ideal S64 .f32}
  {x3 : Vec Ideal S128x64x4x4 .f32} {x4 : Vec Ideal S128 .f32} {x5 : Vec Ideal S128x128x3x3 .f32} {x6 : Vec Ideal S128 .f32}
  {x7 : Vec Ideal S512x128 .f32} {x8 : Vec Ideal S128x128x3x3 .f32} {x9 : Vec Ideal S128 .f32}
  {x10 : Vec Ideal S128x64x4x4 .f32} {x11 : Vec Ideal S64 .f32} {x12 : Vec Ideal S64x1x4x4 .f32} {x13 : Vec Ideal S1 .f32}

/-- A spread image framed by two more rows and columns of zeros. -/
theorem spread_frame (n : ℕ) (f : ℕ → ℕ → EReal) (y x : ℕ) :
    (if (2 ≤ y ∧ y - 2 < 2 * n - 1) ∧ 2 ≤ x ∧ x - 2 < 2 * n - 1 then spread 0 n f (y - 2) (x - 2) else 0) = spread 2 n f y x := by
  unfold spread
  simp only [Nat.sub_zero]
  split_ifs <;> first | rfl | omega

section
variable (h : Fed N x0 x1 x2 x3 x4 x5 x6 x7 x8 x9 x10 x11 x12 x13)
include h

theorem ref_v95 (i : S4x128x98x98.Idx) :
    val_main_v95 (F := Ideal) x0 x1 x2 x3 x4 x5 x6 x7 i = placed 1 96 (ZQ N (i 0) (i 1)) (i 2) (i 3) := by
  unfold val_main_v95 val_main_call6_v0 val_main_c_7
  idx_vars i
  pointwise [ref_v85 h, placed]
  exact dite_congr rfl (fun _ => rfl) fun _ => zero_word

theorem ref_v102 (i : S4x128x3x96x98.Idx) :
    val_main_v102 (F := Ideal) x0 x1 x2 x3 x4 x5 x6 x7 i = placed 1 96 (ZQ N (i 0) (i 1)) (1 * i 3 + i 2) (i 4) := by
  unfold val_main_v102 val_main_v101 val_main_v100 val_main_v99 val_main_v98 val_main_v97 val_main_v96
  idx_vars i
  pointwise [ref_v95 h]
  split_ifs <;> refine congr2 ?_ ?_ <;> omega

theorem ref_v109 (i : S4x128x3x3x96x96.Idx) :
    val_main_v109 (F := Ideal) x0 x1 x2 x3 x4 x5 x6 x7 i = placed 1 96 (ZQ N (i 0) (i 1)) (1 * i 4 + i 2) (1 * i 5 + i 3) := by
  unfold val_main_v109 val_main_v108 val_main_v107 val_main_v106 val_main_v105 val_main_v104 val_main_v103
  idx_vars i
  pointwise [ref_v102 h]
  split_ifs <;> refine congr2 ?_ ?_ <;> omega

theorem ref_v110 (i : S128x4x96x96.Idx) :
    val_main_v110 (F := Ideal) x0 x1 x2 x3 x4 x5 x6 x7 x8 i = ∑ p : Fin 3, ∑ q : Fin 3, ∑ c : Fin 128,
      placed 1 96 (ZQ N (i 1) c) (1 * i 2 + p) (1 * i 3 + q) * N.w4 (i 0) c p q :=
  dot_taps dot_S128x128x3x3_S4x128x3x3x96x96_S128x4x96x96_123_123_0_045_n_n _ rfl rfl rfl rfl
    (fun j k a => by fin_cases a <;> rfl) (fun j k a => by fin_cases a <;> rfl) x8 _ N.w4
    (fun b c p q y x => placed 1 96 (ZQ N b c) (1 * y + p) (1 * x + q)) h.w4 (ref_v109 h) i

theorem ref_v114 (i : S4x128x96x96.Idx) :
    val_main_v114 (F := Ideal) x0 x1 x2 x3 x4 x5 x6 x7 x8 x9 i = D1 N (i 0) (i 1) (i 2) (i 3) := by
  unfold val_main_v114 val_main_v113 val_main_v112 val_main_v111
  idx_vars i
  pointwise [ref_v110 h, h.b4]
  simp only [D1, conv, one_mul]

theorem ref_v116 (i : S64x128x4x4.Idx) :
    val_main_v116 (F := Ideal) x10 i = N.w5 (i 1) (i 0) (3 - i 2) (3 - i 3) := by
  unfold val_main_v116 val_main_v115
  idx_vars i
  pointwise [h.w5]
  refine congr4 rfl rfl ?_ ?_ <;> simp <;> omega

theorem ref_v117 (i : S4x128x191x191.Idx) :
    val_main_v117 (F := Ideal) x0 x1 x2 x3 x4 x5 x6 x7 x8 x9 i = spread 0 96 (D1 N (i 0) (i 1)) (i 2) (i 3) := by
  unfold val_main_v117 val_main_cst_8
  idx_vars i
  pointwise [ref_v114 h, spread]
  exact dite_congr rfl (fun _ => rfl) fun _ => rfl

theorem ref_v118 (i : S4x128x195x195.Idx) :
    val_main_v118 (F := Ideal) x0 x1 x2 x3 x4 x5 x6 x7 x8 x9 i = spread 2 96 (D1 N (i 0) (i 1)) (i 2) (i 3) := by
  unfold val_main_v118 val_main_call8_v0 val_main_c_9
  idx_vars i
  pointwise [ref_v117 h]
  exact (dite_congr rfl (fun _ => rfl) fun _ => zero_word).trans (spread_frame 96 (D1 N i0 i1) i2 i3)

theorem ref_v127 (i : S4x128x4x192x195.Idx) :
    val_main_v127 (F := Ideal) x0 x1 x2 x3 x4 x5 x6 x7 x8 x9 i = spread 2 96 (D1 N (i 0) (i 1)) (1 * i 3 + i 2) (i 4) := by
  unfold val_main_v127 val_main_v126 val_main_v125 val_main_v124 val_main_v123 val_main_v122 val_main_v121 val_main_v120
    val_main_v119
  idx_vars i
  pointwise [ref_v118 h]
  split_ifs <;> refine congr2 ?_ ?_ <;> omega

theorem ref_v136 (i : S4x128x4x4x192x192.Idx) :
    val_main_v136 (F := Ideal) x0 x1 x2 x3 x4 x5 x6 x7 x8 x9 i = spread 2 96 (D1 N (i 0) (i 1)) (1 * i 4 + i 2) (1 * i 5 + i 3) := by
  unfold val_main_v136 val_main_v135 val_main_v134 val_main_v133 val_main_v132 val_main_v131 val_main_v130 val_main_v129
    val_main_v128
  idx_vars i
  pointwise [ref_v127 h]
  split_ifs <;> refine congr2 ?_ ?_ <;> omega

theorem ref_v137 (i : S64x4x192x192.Idx) :
    val_main_v137 (F := Ideal) x0 x1 x2 x3 x4 x5 x6 x7 x8 x9 x10 i = ∑ p : Fin 4, ∑ q : Fin 4, ∑ c : Fin 128,
      spread 2 96 (D1 N (i 1) c) (1 * i 2 + p) (1 * i 3 + q) * N.w5 c (i 0) (3 - p) (3 - q) :=
  dot_taps dot_S64x128x4x4_S4x128x4x4x192x192_S64x4x192x192_123_123_0_045_n_n _ rfl rfl rfl rfl
    (fun j k a => by fin_cases a <;> rfl) (fun j k a => by fin_cases a <;> rfl) _ _ (fun o c p q => N.w5 c o (3 - p) (3 - q))
    (fun b c p q y x => spread 2 96 (D1 N b c) (1 * y + p) (1 * x + q)) (ref_v116 h) (ref_v136 h) i

theorem ref_v142 (i : S4x64x192x192.Idx) :
    val_main_v142 (F := Ideal) x0 x1 x2 x3 x4 x5 x6 x7 x8 x9 x10 x11 i = D2 N (i 0) (i 1) (i 2) (i 3) := by
  unfold val_main_v142 val_main_call9_v0 val_main_call9_cst val_main_v141 val_main_v140 val_main_v139 val_main_v138
  idx_vars i
  pointwise [ref_v137 h, h.b5]
  simp only [D2, conv, one_mul]

theorem ref_v144 (i : S1x64x4x4.Idx) :
    val_main_v144 (F := Ideal) x12 i = N.w6 (i 1) (i 0) (3 - i 2) (3 - i 3) := by
  unfold val_main_v144 val_main_v143
  idx_vars i
  pointwise [h.w6]
  refine congr4 rfl ?_ ?_ ?_ <;> simp <;> omega

theorem ref_v145 (i : S4x64x383x383.Idx) :
    val_main_v145 (F := Ideal) x0 x1 x2 x3 x4 x5 x6 x7 x8 x9 x10 x11 i = spread 0 192 (D2 N (i 0) (i 1)) (i 2) (i 3) := by
  unfold val_main_v145 val_main_cst_10
  idx_vars i
  pointwise [ref_v142 h, spread]
  exact dite_congr rfl (fun _ => rfl) fun _ => rfl

theorem ref_v146 (i : S4x64x387x387.Idx) :
    val_main_v146 (F := Ideal) x0 x1 x2 x3 x4 x5 x6 x7 x8 x9 x10 x11 i = spread 2 192 (D2 N (i 0) (i 1)) (i 2) (i 3) := by
  unfold val_main_v146 val_main_call11_v0 val_main_c_11
  idx_vars i
  pointwise [ref_v145 h]
  exact (dite_congr rfl (fun _ => rfl) fun _ => zero_word).trans (spread_frame 192 (D2 N i0 i1) i2 i3)

theorem ref_v155 (i : S4x64x4x384x387.Idx) :
    val_main_v155 (F := Ideal) x0 x1 x2 x3 x4 x5 x6 x7 x8 x9 x10 x11 i = spread 2 192 (D2 N (i 0) (i 1)) (1 * i 3 + i 2) (i 4) := by
  unfold val_main_v155 val_main_v154 val_main_v153 val_main_v152 val_main_v151 val_main_v150 val_main_v149 val_main_v148
    val_main_v147
  idx_vars i
  pointwise [ref_v146 h]
  split_ifs <;> refine congr2 ?_ ?_ <;> omega

theorem ref_v164 (i : S4x64x4x4x384x384.Idx) :
    val_main_v164 (F := Ideal) x0 x1 x2 x3 x4 x5 x6 x7 x8 x9 x10 x11 i = spread 2 192 (D2 N (i 0) (i 1)) (1 * i 4 + i 2) (1 * i 5 + i 3) := by
  unfold val_main_v164 val_main_v163 val_main_v162 val_main_v161 val_main_v160 val_main_v159 val_main_v158 val_main_v157
    val_main_v156
  idx_vars i
  pointwise [ref_v155 h]
  split_ifs <;> refine congr2 ?_ ?_ <;> omega

theorem ref_v165 (i : S1x4x384x384.Idx) :
    val_main_v165 (F := Ideal) x0 x1 x2 x3 x4 x5 x6 x7 x8 x9 x10 x11 x12 i = ∑ p : Fin 4, ∑ q : Fin 4, ∑ c : Fin 64,
      spread 2 192 (D2 N (i 1) c) (1 * i 2 + p) (1 * i 3 + q) * N.w6 c (i 0) (3 - p) (3 - q) :=
  dot_taps dot_S1x64x4x4_S4x64x4x4x384x384_S1x4x384x384_123_123_0_045_n_n _ rfl rfl rfl rfl
    (fun j k a => by fin_cases a <;> rfl) (fun j k a => by fin_cases a <;> rfl) _ _ (fun o c p q => N.w6 c o (3 - p) (3 - q))
    (fun b c p q y x => spread 2 192 (D2 N b c) (1 * y + p) (1 * x + q)) (ref_v144 h) (ref_v164 h) i

/-- The reconstruction. -/
theorem ref_v169 (i : S4x1x384x384.Idx) :
    val_main_v169 (F := Ideal) x0 x1 x2 x3 x4 x5 x6 x7 x8 x9 x10 x11 x12 x13 i = REC N (i 0) (i 2) (i 3) := by
  unfold val_main_v169 val_main_v168 val_main_v167 val_main_v166
  idx_vars i
  pointwise [ref_v165 h, h.b6]
  simp only [REC, conv, one_mul]

/-- The reconstruction's loss. -/
theorem ref_v173 (i : S_.Idx) : val_main_v173 (F := Ideal) x0 x1 x2 x3 x4 x5 x6 x7 x8 x9 x10 x11 x12 x13 i = Ideal.div (sumR N) countR := by
  refine congrArg (fun s => Ideal.div s countR) ((val_main_v172_apply _ _ _ _ _ _ _ _ _ _ _ _ _ _ i).trans ?_)
  have hz : val_main_cst_12 (F := Ideal) (Shape.Idx.first h_S_) = 0 := zero_bits
  rw [hz, zero_add, sum_idx4]
  have ht (a : Fin 4) (b : Fin 1) (c e : Fin 384) : val_main_v171 (F := Ideal) x0 x1 x2 x3 x4 x5 x6 x7 x8 x9 x10 x11 x12 x13 (ix4 a b c e)
      = (REC N a c e - N.x a 0 c e) * (REC N a c e - N.x a 0 c e) := by
    unfold val_main_v171 val_main_v170
    pointwise [ref_v169 h, h.x]
  simp only [ht]
  unfold sumR
  exact Finset.sum_congr rfl fun a _ => Fin.sum_univ_one _

theorem ref_v174 (i : S_.Idx) : val_main_v174 (F := Ideal) x0 x1 x2 x3 x4 x5 x6 x7 x8 x9 x10 x11 x12 x13 i
    = Ideal.div (sumR N) countR + (Ideal.div (sumQ N) countQ + Ideal.div (sumQ N) countQ) := by
  unfold val_main_v174
  pointwise [ref_v173 h, ref_v94 h]

end

end Cert.ReferenceIdeal.Read
-- ==== Proof.Equal.lean ====
/-
  The kernel and the reference leave the same numbers: both are the model's.
-/
module

public import proofs.«01_k».proof.Defs
public import proofs.«01_k».proof.Proof.KernelEnds
public import proofs.«01_k».proof.Proof.Decoder
public import proofs.«01_k».proof.Proof.Gen.ReferenceIdeal.Run

@[expose] public section

set_option maxRecDepth 16384

noncomputable section

namespace Cert.Vq

open Idealize.ShloMosaic Idealize.ShloMosaic.TcCoe Idealize.ShloMosaic.Tactic Idealize.SL.Sem

theorem reads_one {p : ℕ} (a : (⟨1, ![p]⟩ : Shape).Idx → EReal) : ∃ f : ℕ → EReal, ∀ i, a i = f (i 0) :=
  ⟨fun k => if h : k < p then a (ix1 ⟨k, h⟩) else 0, fun i => by
    refine Eq.trans ?_ (dif_pos (?_ : _)).symm
    · exact congrArg a (ix1_eta i).symm
    · exact (i 0).isLt⟩

theorem reads_two {p q : ℕ} (a : (⟨2, ![p, q]⟩ : Shape).Idx → EReal) : ∃ f : ℕ → ℕ → EReal, ∀ i, a i = f (i 0) (i 1) :=
  ⟨fun k l => if h : k < p ∧ l < q then a (ix2 ⟨k, h.1⟩ ⟨l, h.2⟩) else 0, fun i => by
    refine Eq.trans ?_ (dif_pos (?_ : _)).symm
    · exact congrArg a (ix2_eta i).symm
    · exact ⟨(i 0).isLt, (i 1).isLt⟩⟩

theorem reads_four {p q r s : ℕ} (a : (⟨4, ![p, q, r, s]⟩ : Shape).Idx → EReal) :
    ∃ f : ℕ → ℕ → ℕ → ℕ → EReal, ∀ i, a i = f (i 0) (i 1) (i 2) (i 3) :=
  ⟨fun k l y x => if h : k < p ∧ l < q ∧ y < r ∧ x < s then a (ix4 ⟨k, h.1⟩ ⟨l, h.2.1⟩ ⟨y, h.2.2.1⟩ ⟨x, h.2.2.2⟩) else 0, fun i => by
    refine Eq.trans ?_ (dif_pos (?_ : _)).symm
    · exact congrArg a (ix4_eta i).symm
    · exact ⟨(i 0).isLt, (i 1).isLt, (i 2).isLt, (i 3).isLt⟩⟩

/-- Whatever the arguments hold, some network's inputs are what they hold. -/
theorem exists_net (m : (ℓ : Loc Cert.KernelIdeal.nD Cert.KernelIdeal.τ Cert.KernelIdeal.sig) → Buf (Elt Ideal) ℓ)
    (c : Dev Cert.KernelIdeal.nD) : ∃ N, Cert.KernelIdeal.Gen.Reads m c N := by
  obtain ⟨x, hx⟩ := reads_four (m ((c.tc : Thread Cert.KernelIdeal.nD Cert.KernelIdeal.τ).loc Cert.KernelIdeal.main_arg0))
  obtain ⟨w1, hw1⟩ := reads_four (m ((c.tc : Thread Cert.KernelIdeal.nD Cert.KernelIdeal.τ).loc Cert.KernelIdeal.main_arg1))
  obtain ⟨b1, hb1⟩ := reads_one (m ((c.tc : Thread Cert.KernelIdeal.nD Cert.KernelIdeal.τ).loc Cert.KernelIdeal.main_arg2))
  obtain ⟨w2, hw2⟩ := reads_four (m ((c.tc : Thread Cert.KernelIdeal.nD Cert.KernelIdeal.τ).loc Cert.KernelIdeal.main_arg3))
  obtain ⟨b2, hb2⟩ := reads_one (m ((c.tc : Thread Cert.KernelIdeal.nD Cert.KernelIdeal.τ).loc Cert.KernelIdeal.main_arg4))
  obtain ⟨w3, hw3⟩ := reads_four (m ((c.tc : Thread Cert.KernelIdeal.nD Cert.KernelIdeal.τ).loc Cert.KernelIdeal.main_arg5))
  obtain ⟨b3, hb3⟩ := reads_one (m ((c.tc : Thread Cert.KernelIdeal.nD Cert.KernelIdeal.τ).loc Cert.KernelIdeal.main_arg6))
  obtain ⟨e, he⟩ := reads_two (m ((c.tc : Thread Cert.KernelIdeal.nD Cert.KernelIdeal.τ).loc Cert.KernelIdeal.main_arg7))
  obtain ⟨w4, hw4⟩ := reads_four (m ((c.tc : Thread Cert.KernelIdeal.nD Cert.KernelIdeal.τ).loc Cert.KernelIdeal.main_arg8))
  obtain ⟨b4, hb4⟩ := reads_one (m ((c.tc : Thread Cert.KernelIdeal.nD Cert.KernelIdeal.τ).loc Cert.KernelIdeal.main_arg9))
  obtain ⟨w5, hw5⟩ := reads_four (m ((c.tc : Thread Cert.KernelIdeal.nD Cert.KernelIdeal.τ).loc Cert.KernelIdeal.main_arg10))
  obtain ⟨b5, hb5⟩ := reads_one (m ((c.tc : Thread Cert.KernelIdeal.nD Cert.KernelIdeal.τ).loc Cert.KernelIdeal.main_arg11))
  obtain ⟨w6, hw6⟩ := reads_four (m ((c.tc : Thread Cert.KernelIdeal.nD Cert.KernelIdeal.τ).loc Cert.KernelIdeal.main_arg12))
  obtain ⟨b6, hb6⟩ := reads_one (m ((c.tc : Thread Cert.KernelIdeal.nD Cert.KernelIdeal.τ).loc Cert.KernelIdeal.main_arg13))
  exact ⟨⟨x, w1, b1, w2, b2, w3, b3, e, w4, b4, w5, b5, w6, b6⟩, ⟨hx, hw1, hb1, hw2, hb2, hw3, hb3, he, hw4, hb4, hw5, hb5, hw6, hb6⟩⟩

/-- The idealized kernel and the reference end with equal results. -/
theorem equal [hK : Cert.KernelIdeal.Facts] [hR : Cert.ReferenceIdeal.Facts] :
    Cert.algebraic_KernelIdeal_ReferenceIdeal := by
  intro m g m' g' _ hargs
  refine ⟨fun c => Cert.KernelIdeal.Gen.W33 m g c (Proc.devRef .tc Cert.KernelIdeal.main_v276),
    fun c => Cert.KernelIdeal.Gen.W33 m g c (Proc.devRef .tc Cert.KernelIdeal.main_v282),
    fun c => Cert.KernelIdeal.Gen.W33 m g c (Proc.devRef .tc Cert.KernelIdeal.main_v278),
    fun c => Cert.KernelIdeal.Gen.W33 m g c (Proc.devRef .tc Cert.KernelIdeal.main_v281), ?_, ?_⟩
  · refine (θ_run Cert.KernelIdeal.defs _ _).mono (fun r h c => ?_) (Cert.KernelIdeal.Gen.ends m g)
    exact ⟨h c _ (Cert.KernelIdeal.Gen.mem_uc _ (by decide)), h c _ (Cert.KernelIdeal.Gen.mem_uc _ (by decide)),
      h c _ (Cert.KernelIdeal.Gen.mem_uc _ (by decide)), h c _ (Cert.KernelIdeal.Gen.mem_uc _ (by decide)),
      (h c _ (Cert.KernelIdeal.Gen.mem_uc Cert.KernelIdeal.main_arg0 (by decide))).trans (Cert.KernelIdeal.Gen.W33_main_arg0 m g c),
      (h c _ (Cert.KernelIdeal.Gen.mem_uc Cert.KernelIdeal.main_arg1 (by decide))).trans (Cert.KernelIdeal.Gen.W33_main_arg1 m g c),
      (h c _ (Cert.KernelIdeal.Gen.mem_uc Cert.KernelIdeal.main_arg2 (by decide))).trans (Cert.KernelIdeal.Gen.W33_main_arg2 m g c),
      (h c _ (Cert.KernelIdeal.Gen.mem_uc Cert.KernelIdeal.main_arg3 (by decide))).trans (Cert.KernelIdeal.Gen.W33_main_arg3 m g c),
      (h c _ (Cert.KernelIdeal.Gen.mem_uc Cert.KernelIdeal.main_arg4 (by decide))).trans (Cert.KernelIdeal.Gen.W33_main_arg4 m g c),
      (h c _ (Cert.KernelIdeal.Gen.mem_uc Cert.KernelIdeal.main_arg5 (by decide))).trans (Cert.KernelIdeal.Gen.W33_main_arg5 m g c),
      (h c _ (Cert.KernelIdeal.Gen.mem_uc Cert.KernelIdeal.main_arg6 (by decide))).trans (Cert.KernelIdeal.Gen.W33_main_arg6 m g c),
      (h c _ (Cert.KernelIdeal.Gen.mem_uc Cert.KernelIdeal.main_arg7 (by decide))).trans (Cert.KernelIdeal.Gen.W33_main_arg7 m g c),
      (h c _ (Cert.KernelIdeal.Gen.mem_uc Cert.KernelIdeal.main_arg8 (by decide))).trans (Cert.KernelIdeal.Gen.W33_main_arg8 m g c),
      (h c _ (Cert.KernelIdeal.Gen.mem_uc Cert.KernelIdeal.main_arg9 (by decide))).trans (Cert.KernelIdeal.Gen.W33_main_arg9 m g c),
      (h c _ (Cert.KernelIdeal.Gen.mem_uc Cert.KernelIdeal.main_arg10 (by decide))).trans (Cert.KernelIdeal.Gen.W33_main_arg10 m g c),
      (h c _ (Cert.KernelIdeal.Gen.mem_uc Cert.KernelIdeal.main_arg11 (by decide))).trans (Cert.KernelIdeal.Gen.W33_main_arg11 m g c),
      (h c _ (Cert.KernelIdeal.Gen.mem_uc Cert.KernelIdeal.main_arg12 (by decide))).trans (Cert.KernelIdeal.Gen.W33_main_arg12 m g c),
      (h c _ (Cert.KernelIdeal.Gen.mem_uc Cert.KernelIdeal.main_arg13 (by decide))).trans (Cert.KernelIdeal.Gen.W33_main_arg13 m g c)⟩
  · refine (θ_run Cert.ReferenceIdeal.defs _ _).mono (fun r h c => ?_) (Cert.ReferenceIdeal.Value.run m' g')
    obtain ⟨N, hN⟩ := exists_net m c
    obtain ⟨a0, a1, a2, a3, a4, a5, a6, a7, a8, a9, a10, a11, a12, a13⟩ := hargs c
    have hF := Cert.ReferenceIdeal.Read.Fed.mk (N := N)
      (fun i => (congrFun a0 i).trans (hN.x i))
      (fun i => (congrFun a1 i).trans (hN.w1 i))
      (fun i => (congrFun a2 i).trans (hN.b1 i))
      (fun i => (congrFun a3 i).trans (hN.w2 i))
      (fun i => (congrFun a4 i).trans (hN.b2 i))
      (fun i => (congrFun a5 i).trans (hN.w3 i))
      (fun i => (congrFun a6 i).trans (hN.b3 i))
      (fun i => (congrFun a7 i).trans (hN.e i))
      (fun i => (congrFun a8 i).trans (hN.w4 i))
      (fun i => (congrFun a9 i).trans (hN.b4 i))
      (fun i => (congrFun a10 i).trans (hN.w5 i))
      (fun i => (congrFun a11 i).trans (hN.b5 i))
      (fun i => (congrFun a12 i).trans (hN.w6 i))
      (fun i => (congrFun a13 i).trans (hN.b6 i))
    obtain ⟨h0, h1, h2, h3, hrest⟩ := h c
    refine ⟨h0.trans ?_, h1.trans ?_, h2.trans ?_, h3.trans ?_, hrest⟩
    · refine (Cert.ReferenceIdeal.Read.val_main_v169_eq (StableHlo.launchContents m' c)).trans (funext fun i => ?_)
      exact (Cert.ReferenceIdeal.Read.ref_v169 hF i).trans (Cert.KernelIdeal.Gen.kernel_recon g hN i).symm
    · refine (Cert.ReferenceIdeal.Read.val_main_v174_eq (StableHlo.launchContents m' c)).trans (funext fun i => ?_)
      exact (Cert.ReferenceIdeal.Read.ref_v174 hF i).trans (Cert.KernelIdeal.Gen.kernel_total g hN i).symm
    · refine (Cert.ReferenceIdeal.Read.val_main_v173_eq (StableHlo.launchContents m' c)).trans (funext fun i => ?_)
      exact (Cert.ReferenceIdeal.Read.ref_v173 hF i).trans (Cert.KernelIdeal.Gen.kernel_lossR g hN i).symm
    · refine (Cert.ReferenceIdeal.Read.val_main_v94_eq (StableHlo.launchContents m' c)).trans (funext fun i => ?_)
      exact (Cert.ReferenceIdeal.Read.ref_v94 hF i).trans (Cert.KernelIdeal.Gen.kernel_lossQ g hN i).symm

end Cert.Vq
-- ==== Proof.lean ====
/-
  The claim about the VQ-VAE forward pass, assembled: the frames of the kernel and of its idealization are the
  generated ones, the reference's is read off its run, and the equality of the results is `Cert.Vq.equal`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Equal
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference ends with its arguments unchanged; it declares no semaphore, so the counters are zero. -/
theorem frame_reference [hR : Cert.ReferenceIdeal.Facts] : Cert.quiescent_ReferenceIdeal := fun m g _ =>
  (θ_run Cert.ReferenceIdeal.defs _ _).mono
    (fun r h => ⟨fun c => (h c).2.2.2.2, sem_eq_zero_of_no_sems (by decide) r.2⟩)
    (Cert.ReferenceIdeal.Value.run (F := Ideal) m g)

/-- The three frames, the idealization, and the equality of all four results. -/
theorem claim : Cert.Claim :=
  ⟨Cert.Kernel.Gen.facts, Cert.KernelIdeal.Gen.facts, Cert.ReferenceIdeal.Gen.facts,
    fun m g _ => Cert.Kernel.Gen.frame m g, fun m g _ => Cert.KernelIdeal.Gen.frame m g,
    frame_reference (hR := Cert.ReferenceIdeal.Gen.facts), trivial,
    Cert.Vq.equal (hK := Cert.KernelIdeal.Gen.facts) (hR := Cert.ReferenceIdeal.Gen.facts)⟩

end Cert.Proof

end
